-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x12928 : Shape := ⟨3, ![8, 1, 12928]⟩
abbrev S27392x3232x3 : Shape := ⟨3, ![27392, 3232, 3]⟩
abbrev S27392 : Shape := ⟨1, ![27392]⟩
abbrev S27392x101 : Shape := ⟨2, ![27392, 101]⟩
abbrev S8x101x32x4 : Shape := ⟨4, ![8, 101, 32, 4]⟩
abbrev S101x8x4x32 : Shape := ⟨4, ![101, 8, 4, 32]⟩
abbrev S101x8x128 : Shape := ⟨3, ![101, 8, 128]⟩
abbrev S_ : Shape := ⟨0, ![]⟩
abbrev S102x8x128 : Shape := ⟨3, ![102, 8, 128]⟩
abbrev S51x2x8x1x128 : Shape := ⟨5, ![51, 2, 8, 1, 128]⟩
abbrev S2x2 : Shape := ⟨2, ![2, 2]⟩
abbrev S1x2x1x2x1 : Shape := ⟨5, ![1, 2, 1, 2, 1]⟩
abbrev S51x2x8x2x128 : Shape := ⟨5, ![51, 2, 8, 2, 128]⟩
abbrev S51x16x256 : Shape := ⟨3, ![51, 16, 256]⟩
abbrev S3x3232x27392 : Shape := ⟨3, ![3, 3232, 27392]⟩
abbrev S101x27392 : Shape := ⟨2, ![101, 27392]⟩
abbrev S1x27392 : Shape := ⟨2, ![1, 27392]⟩
abbrev S8x27392 : Shape := ⟨2, ![8, 27392]⟩
abbrev S3x3232x512 : Shape := ⟨3, ![3, 3232, 512]⟩
abbrev S1x512 : Shape := ⟨2, ![1, 512]⟩
abbrev S101x512 : Shape := ⟨2, ![101, 512]⟩
abbrev S8x512 : Shape := ⟨2, ![8, 512]⟩
abbrev S1x32x512 : Shape := ⟨3, ![1, 32, 512]⟩
abbrev S32x512 : Shape := ⟨2, ![32, 512]⟩
abbrev S256x512 : Shape := ⟨2, ![256, 512]⟩
abbrev S1x16x256 : Shape := ⟨3, ![1, 16, 256]⟩
abbrev S16x256 : Shape := ⟨2, ![16, 256]⟩
abbrev S16x512 : Shape := ⟨2, ![16, 512]⟩
abbrev S128x512 : Shape := ⟨2, ![128, 512]⟩
abbrev S16x128 : Shape := ⟨2, ![16, 128]⟩
abbrev S8x1x27392 : Shape := ⟨3, ![8, 1, 27392]⟩

abbrev nBuf : Space → Nat
  | .hbm => 28
  | .vmem => 9
  | .smem => 0
  | _ => 0

abbrev bufTy : (tb : Table) → Fin (tcTables nBuf tb) → BufTy
  | .hbm, ⟨0, _⟩ => ⟨S8x1x12928, .bf16⟩
  | .hbm, ⟨1, _⟩ => ⟨S27392x3232x3, .i8⟩
  | .hbm, ⟨2, _⟩ => ⟨S27392, .f32⟩
  | .hbm, ⟨3, _⟩ => ⟨S27392x101, .f32⟩
  | .hbm, ⟨4, _⟩ => ⟨S8x101x32x4, .bf16⟩
  | .hbm, ⟨5, _⟩ => ⟨S101x8x4x32, .bf16⟩
  | .hbm, ⟨6, _⟩ => ⟨S101x8x128, .bf16⟩
  | .hbm, ⟨7, _⟩ => ⟨S_, .i32⟩
  | .hbm, ⟨8, _⟩ => ⟨S_, .bf16⟩
  | .hbm, ⟨9, _⟩ => ⟨S102x8x128, .bf16⟩
  | .hbm, ⟨10, _⟩ => ⟨S51x2x8x1x128, .bf16⟩
  | .hbm, ⟨11, _⟩ => ⟨S2x2, .i32⟩
  | .hbm, ⟨12, _⟩ => ⟨S2x2, .i32⟩
  | .hbm, ⟨13, _⟩ => ⟨S_, .i32⟩
  | .hbm, ⟨14, _⟩ => ⟨S2x2, .i32⟩
  | .hbm, ⟨15, _⟩ => ⟨S2x2, .i32⟩
  | .hbm, ⟨16, _⟩ => ⟨S2x2, .i1⟩
  | .hbm, ⟨17, _⟩ => ⟨S2x2, .bf16⟩
  | .hbm, ⟨18, _⟩ => ⟨S1x2x1x2x1, .bf16⟩
  | .hbm, ⟨19, _⟩ => ⟨S51x2x8x2x128, .bf16⟩
  | .hbm, ⟨20, _⟩ => ⟨S51x2x8x2x128, .bf16⟩
  | .hbm, ⟨21, _⟩ => ⟨S51x2x8x2x128, .bf16⟩
  | .hbm, ⟨22, _⟩ => ⟨S51x16x256, .bf16⟩
  | .hbm, ⟨23, _⟩ => ⟨S3x3232x27392, .i8⟩
  | .hbm, ⟨24, _⟩ => ⟨S101x27392, .f32⟩
  | .hbm, ⟨25, _⟩ => ⟨S1x27392, .f32⟩
  | .hbm, ⟨26, _⟩ => ⟨S8x27392, .bf16⟩
  | .hbm, ⟨27, _⟩ => ⟨S8x1x27392, .bf16⟩
  | .local _ .vmem, ⟨0, _⟩ => ⟨S51x16x256, .bf16⟩
  | .local _ .vmem, ⟨1, _⟩ => ⟨S3x3232x512, .i8⟩
  | .local _ .vmem, ⟨2, _⟩ => ⟨S3x3232x512, .i8⟩
  | .local _ .vmem, ⟨3, _⟩ => ⟨S1x512, .f32⟩
  | .local _ .vmem, ⟨4, _⟩ => ⟨S1x512, .f32⟩
  | .local _ .vmem, ⟨5, _⟩ => ⟨S101x512, .f32⟩
  | .local _ .vmem, ⟨6, _⟩ => ⟨S101x512, .f32⟩
  | .local _ .vmem, ⟨7, _⟩ => ⟨S8x512, .bf16⟩
  | .local _ .vmem, ⟨8, _⟩ => ⟨S8x512, .bf16⟩
  | _, _ => ⟨S8x1x12928, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![54], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S51x16x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x3232x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S101x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x1x12928 : Shape := ⟨3, ![8, 1, 12928]⟩
abbrev S27392x3232x3 : Shape := ⟨3, ![27392, 3232, 3]⟩
abbrev S27392 : Shape := ⟨1, ![27392]⟩
abbrev S27392x101 : Shape := ⟨2, ![27392, 101]⟩
abbrev S27392x101x32x3 : Shape := ⟨4, ![27392, 101, 32, 3]⟩
abbrev S27392x101x32x1 : Shape := ⟨4, ![27392, 101, 32, 1]⟩
abbrev S27392x101x32 : Shape := ⟨3, ![27392, 101, 32]⟩
abbrev S_ : Shape := ⟨0, ![]⟩
abbrev S4 : Shape := ⟨1, ![4]⟩
abbrev S4x1 : Shape := ⟨2, ![4, 1]⟩
abbrev S27392x101x1x32 : Shape := ⟨4, ![27392, 101, 1, 32]⟩
abbrev S1x1x4x1 : Shape := ⟨4, ![1, 1, 4, 1]⟩
abbrev S27392x101x4x32 : Shape := ⟨4, ![27392, 101, 4, 32]⟩
abbrev S8x1x101x32x4 : Shape := ⟨5, ![8, 1, 101, 32, 4]⟩
abbrev S8x1x101x4x32 : Shape := ⟨5, ![8, 1, 101, 4, 32]⟩
abbrev S101x27392x8x1 : Shape := ⟨4, ![101, 27392, 8, 1]⟩
abbrev S8x1x27392x101 : Shape := ⟨4, ![8, 1, 27392, 101]⟩
abbrev S1x1x27392x101 : Shape := ⟨4, ![1, 1, 27392, 101]⟩
abbrev S8x1x27392 : Shape := ⟨3, ![8, 1, 27392]⟩
abbrev S1x1x27392 : Shape := ⟨3, ![1, 1, 27392]⟩

abbrev nBuf : Space → Nat
  | .hbm => 82
  | .vmem => 0
  | .smem => 0
  | _ => 0

abbrev bufTy : (tb : Table) → Fin (tcTables nBuf tb) → BufTy
  | .hbm, ⟨0, _⟩ => ⟨S8x1x12928, .bf16⟩
  | .hbm, ⟨1, _⟩ => ⟨S27392x3232x3, .i8⟩
  | .hbm, ⟨2, _⟩ => ⟨S27392, .f32⟩
  | .hbm, ⟨3, _⟩ => ⟨S27392x101, .f32⟩
  | .hbm, ⟨4, _⟩ => ⟨S27392x101x32x3, .i8⟩
  | .hbm, ⟨5, _⟩ => ⟨S27392x101x32x3, .i32⟩
  | .hbm, ⟨6, _⟩ => ⟨S27392x101x32x1, .i32⟩
  | .hbm, ⟨7, _⟩ => ⟨S27392x101x32, .i32⟩
  | .hbm, ⟨8, _⟩ => ⟨S27392x101x32x1, .i32⟩
  | .hbm, ⟨9, _⟩ => ⟨S27392x101x32, .i32⟩
  | .hbm, ⟨10, _⟩ => ⟨S_, .i32⟩
  | .hbm, ⟨11, _⟩ => ⟨S27392x101x32, .i32⟩
  | .hbm, ⟨12, _⟩ => ⟨S27392x101x32, .i32⟩
  | .hbm, ⟨13, _⟩ => ⟨S27392x101x32, .i32⟩
  | .hbm, ⟨14, _⟩ => ⟨S27392x101x32x1, .i32⟩
  | .hbm, ⟨15, _⟩ => ⟨S27392x101x32, .i32⟩
  | .hbm, ⟨16, _⟩ => ⟨S_, .i32⟩
  | .hbm, ⟨17, _⟩ => ⟨S27392x101x32, .i32⟩
  | .hbm, ⟨18, _⟩ => ⟨S27392x101x32, .i32⟩
  | .hbm, ⟨19, _⟩ => ⟨S27392x101x32, .i32⟩
  | .hbm, ⟨20, _⟩ => ⟨S4, .i32⟩
  | .hbm, ⟨21, _⟩ => ⟨S_, .i32⟩
  | .hbm, ⟨22, _⟩ => ⟨S4, .i32⟩
  | .hbm, ⟨23, _⟩ => ⟨S4, .i32⟩
  | .hbm, ⟨24, _⟩ => ⟨S4x1, .i32⟩
  | .hbm, ⟨25, _⟩ => ⟨S27392x101x1x32, .i32⟩
  | .hbm, ⟨26, _⟩ => ⟨S1x1x4x1, .i32⟩
  | .hbm, ⟨27, _⟩ => ⟨S27392x101x4x32, .i32⟩
  | .hbm, ⟨28, _⟩ => ⟨S27392x101x4x32, .i32⟩
  | .hbm, ⟨29, _⟩ => ⟨S27392x101x4x32, .i32⟩
  | .hbm, ⟨30, _⟩ => ⟨S_, .i32⟩
  | .hbm, ⟨31, _⟩ => ⟨S27392x101x4x32, .i32⟩
  | .hbm, ⟨32, _⟩ => ⟨S27392x101x4x32, .i32⟩
  | .hbm, ⟨33, _⟩ => ⟨S_, .i32⟩
  | .hbm, ⟨34, _⟩ => ⟨S27392x101x4x32, .i32⟩
  | .hbm, ⟨35, _⟩ => ⟨S27392x101x4x32, .i32⟩
  | .hbm, ⟨36, _⟩ => ⟨S_, .i32⟩
  | .hbm, ⟨37, _⟩ => ⟨S27392x101x4x32, .i32⟩
  | .hbm, ⟨38, _⟩ => ⟨S27392x101x4x32, .i32⟩
  | .hbm, ⟨39, _⟩ => ⟨S_, .i32⟩
  | .hbm, ⟨40, _⟩ => ⟨S27392x101x4x32, .i32⟩
  | .hbm, ⟨41, _⟩ => ⟨S27392x101x4x32, .i32⟩
  | .hbm, ⟨42, _⟩ => ⟨S_, .i32⟩
  | .hbm, ⟨43, _⟩ => ⟨S27392x101x4x32, .i32⟩
  | .hbm, ⟨44, _⟩ => ⟨S27392x101x4x32, .i32⟩
  | .hbm, ⟨45, _⟩ => ⟨S_, .i32⟩
  | .hbm, ⟨46, _⟩ => ⟨S27392x101x4x32, .i32⟩
  | .hbm, ⟨47, _⟩ => ⟨S27392x101x4x32, .i32⟩
  | .hbm, ⟨48, _⟩ => ⟨S_, .i32⟩
  | .hbm, ⟨49, _⟩ => ⟨S27392x101x4x32, .i32⟩
  | .hbm, ⟨50, _⟩ => ⟨S27392x101x4x32, .i32⟩
  | .hbm, ⟨51, _⟩ => ⟨S27392x101x4x32, .f32⟩
  | .hbm, ⟨52, _⟩ => ⟨S27392x101x4x32, .f32⟩
  | .hbm, ⟨53, _⟩ => ⟨S_, .f32⟩
  | .hbm, ⟨54, _⟩ => ⟨S27392x101x4x32, .f32⟩
  | .hbm, ⟨55, _⟩ => ⟨S27392x101x4x32, .f32⟩
  | .hbm, ⟨56, _⟩ => ⟨S_, .i32⟩
  | .hbm, ⟨57, _⟩ => ⟨S27392x101x4x32, .i32⟩
  | .hbm, ⟨58, _⟩ => ⟨S27392x101x4x32, .i1⟩
  | .hbm, ⟨59, _⟩ => ⟨S27392x101x4x32, .f32⟩
  | .hbm, ⟨60, _⟩ => ⟨S_, .i32⟩
  | .hbm, ⟨61, _⟩ => ⟨S27392x101x4x32, .i32⟩
  | .hbm, ⟨62, _⟩ => ⟨S27392x101x4x32, .i32⟩
  | .hbm, ⟨63, _⟩ => ⟨S_, .i32⟩
  | .hbm, ⟨64, _⟩ => ⟨S27392x101x4x32, .i32⟩
  | .hbm, ⟨65, _⟩ => ⟨S27392x101x4x32, .i32⟩
  | .hbm, ⟨66, _⟩ => ⟨S27392x101x4x32, .f32⟩
  | .hbm, ⟨67, _⟩ => ⟨S27392x101x4x32, .f32⟩
  | .hbm, ⟨68, _⟩ => ⟨S27392x101x4x32, .bf16⟩
  | .hbm, ⟨69, _⟩ => ⟨S8x1x101x32x4, .bf16⟩
  | .hbm, ⟨70, _⟩ => ⟨S8x1x101x4x32, .bf16⟩
  | .hbm, ⟨71, _⟩ => ⟨S101x27392x8x1, .f32⟩
  | .hbm, ⟨72, _⟩ => ⟨S8x1x27392x101, .f32⟩
  | .hbm, ⟨73, _⟩ => ⟨S1x1x27392x101, .f32⟩
  | .hbm, ⟨74, _⟩ => ⟨S8x1x27392x101, .f32⟩
  | .hbm, ⟨75, _⟩ => ⟨S8x1x27392x101, .f32⟩
  | .hbm, ⟨76, _⟩ => ⟨S_, .f32⟩
  | .hbm, ⟨77, _⟩ => ⟨S8x1x27392, .f32⟩
  | .hbm, ⟨78, _⟩ => ⟨S1x1x27392, .f32⟩
  | .hbm, ⟨79, _⟩ => ⟨S8x1x27392, .f32⟩
  | .hbm, ⟨80, _⟩ => ⟨S8x1x27392, .f32⟩
  | .hbm, ⟨81, _⟩ => ⟨S8x1x27392, .bf16⟩
  | _, _ => ⟨S8x1x12928, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_c_5 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_c_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst : Ref sig .tc := ⟨.hbm, 53, rfl⟩
abbrev main_v39 : Ref sig .tc := ⟨.hbm, 54, rfl⟩
abbrev main_v40 : Ref sig .tc := ⟨.hbm, 55, rfl⟩
abbrev main_c_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_10 : Ref sig .tc := ⟨.hbm, 60, rfl⟩
abbrev main_v44 : Ref sig .tc := ⟨.hbm, 61, rfl⟩
abbrev main_v45 : Ref sig .tc := ⟨.hbm, 62, rfl⟩
abbrev main_c_11 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_12 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Proof.BodyKernel.lean ====
/- The kernel's body as a loop over its tiles. A tile is two groups of 128 weights: six loads of packed
   bytes, one block of the activations and two rows of group scales. `step` is what a tile adds to the
   running sum, `body` runs the fifty tiles, the last group alone, and the store; `body_eq` says that the
   printed body is this program. -/
module

public import proofs.«01_k».proof.Kernel
public import proofs.«01_k».proof.Proof.Gen.Kernel
public meta import Idealize.ShloMosaic.Lib.Pipeline.Regions

@[expose] public section

set_option maxRecDepth 16384

noncomputable section

namespace Cert.Kernel

open Idealize.ShloMosaic Idealize.SL.Sem
open Facts₀ Facts

variable {F : FTy → Type} [FloatOps F] [Facts]

/-! ## What one tile computes -/

/-- A loaded block of packed bytes, four bytes to a word. -/
def words (v : Vec F S1x32x512 .i8) : IVec S8x512 32 :=
  bitcast S8x512 32 (shapeCast S32x512 v shapeCasts_S1x32x512_S32x512) bitcasts_S32x512_w8_S8x512_w32

/-- First of the four codes of each byte triple. -/
def code0 (p0 : IVec S8x512 32) : IVec S8x512 32 := andi p0 (broadcast S8x512 1061109567#32)

/-- Second code: four bits of the second byte over two of the first. -/
def code1 (p0 p1 : IVec S8x512 32) : IVec S8x512 32 :=
  ori (andi (shli p1 (broadcast S8x512 2#32)) (broadcast S8x512 1010580540#32))
    (andi (shrui p0 (broadcast S8x512 6#32)) (broadcast S8x512 50529027#32))

/-- Third code: two bits of the third byte over four of the second. -/
def code2 (p1 p2 : IVec S8x512 32) : IVec S8x512 32 :=
  ori (andi (shrui p1 (broadcast S8x512 4#32)) (broadcast S8x512 252645135#32))
    (andi (shli p2 (broadcast S8x512 4#32)) (broadcast S8x512 808464432#32))

/-- Fourth code: the six high bits of the third byte. -/
def code3 (p2 : IVec S8x512 32) : IVec S8x512 32 :=
  andi (shrui p2 (broadcast S8x512 2#32)) (broadcast S8x512 1061109567#32)

/-- A word of codes as weights: the sign bit moved to the top of each byte, the byte read as a float. -/
def weight (c : IVec S8x512 32) : FVec F S32x512 .bf16 :=
  extf .bf16 (bitcastToFloat .fp8e5m2 (bitcast S32x512 8
    (andi (addi c (broadcast S8x512 1616928864#32)) (broadcast S8x512 2678038431#32))
    bitcasts_S8x512_w32_S32x512_w8)) bitsLt_fp8e5m2_bf16

/-- The weights of two groups, one code after another. -/
def tileW (a0 a1 a2 b0 b1 b2 : IVec S8x512 32) : FVec F S256x512 .bf16 :=
  concatenate S256x512 0
    [⟨S32x512, weight (code0 a0)⟩, ⟨S32x512, weight (code1 a0 a1)⟩, ⟨S32x512, weight (code2 a1 a2)⟩,
      ⟨S32x512, weight (code3 a2)⟩, ⟨S32x512, weight (code0 b0)⟩, ⟨S32x512, weight (code1 b0 b1)⟩,
      ⟨S32x512, weight (code2 b1 b2)⟩, ⟨S32x512, weight (code3 b2)⟩]
    concatenates_S32x512_S32x512_S32x512_S32x512_S32x512_S32x512_S32x512_S32x512_S256x512_d0

/-- The weights of the last group. -/
def lastW (a0 a1 a2 : IVec S8x512 32) : FVec F S128x512 .bf16 :=
  concatenate S128x512 0
    [⟨S32x512, weight (code0 a0)⟩, ⟨S32x512, weight (code1 a0 a1)⟩, ⟨S32x512, weight (code2 a1 a2)⟩,
      ⟨S32x512, weight (code3 a2)⟩]
    concatenates_S32x512_S32x512_S32x512_S32x512_S128x512_d0

/-- A tile's product: sixteen rows, eight for each of its two groups. -/
def tileDot (w : FVec F S256x512 .bf16) (x : Vec F S1x16x256 .bf16) : FVec F S16x512 .f32 :=
  matmul dot_S16x256_S256x512_S16x512_1_0_0_1_n_n none (shapeCast S16x256 x shapeCasts_S1x16x256_S16x256) w
    (constant S16x512 .f32 0x00000000#32)

/-- The last group's product, over the first half of the activation block. -/
def lastDot (w : FVec F S128x512 .bf16) (x : Vec F S1x16x256 .bf16) : FVec F S16x512 .f32 :=
  matmul dot_S16x128_S128x512_S16x512_1_0_0_1_n_n none
    (extractStridedSlice S16x128 ![0, 0] (shapeCast S16x256 x shapeCasts_S1x16x256_S16x256)
      slices_S16x256_o0_0_S16x128) w
    (constant S16x512 .f32 0x00000000#32)

/-- One row of scales, at every row of the sum. -/
def rowOf (g : Vec F S1x512 .f32) : FVec F S8x512 .f32 :=
  broadcastTo S8x512 (shapeCast S1x512 g shapeCasts_S1x512_S1x512) broadcasts_S1x512_S8x512

/-- The upper eight rows of a product, scaled and added. -/
def addTop (acc : FVec F S8x512 .f32) (p : FVec F S16x512 .f32) (g : Vec F S1x512 .f32) : FVec F S8x512 .f32 :=
  addf acc (mulf (extractStridedSlice S8x512 ![0, 0] p slices_S16x512_o0_0_S8x512) (rowOf g))

/-- The lower eight rows of a product, scaled and added. -/
def addBot (acc : FVec F S8x512 .f32) (p : FVec F S16x512 .f32) (g : Vec F S1x512 .f32) : FVec F S8x512 .f32 :=
  addf acc (mulf (extractStridedSlice S8x512 ![8, 0] p slices_S16x512_o8_0_S8x512) (rowOf g))

/-- The running sum after a tile. -/
def step (acc : FVec F S8x512 .f32) (a0 a1 a2 b0 b1 b2 : Vec F S1x32x512 .i8) (x : Vec F S1x16x256 .bf16)
    (ga gb : Vec F S1x512 .f32) : FVec F S8x512 .f32 :=
  addBot (addTop acc (tileDot (tileW (words a0) (words a1) (words a2) (words b0) (words b1) (words b2)) x) ga)
    (tileDot (tileW (words a0) (words a1) (words a2) (words b0) (words b1) (words b2)) x) gb

/-- The running sum after the last group. -/
def lastStep (acc : FVec F S8x512 .f32) (a0 a1 a2 : Vec F S1x32x512 .i8) (x : Vec F S1x16x256 .bf16)
    (ga : Vec F S1x512 .f32) : FVec F S8x512 .f32 :=
  addTop acc (lastDot (lastW (words a0) (words a1) (words a2)) x) ga

/-- What the body stores: the sum times 4096 and the column scales, rounded. -/
def finish (acc : FVec F S8x512 .f32) (ws : Vec F S1x512 .f32) : FVec F S8x512 .bf16 :=
  truncf .bf16 (mulf (mulf acc (broadcast S8x512 (Scalar.ofBits .f32 0x45800000#32))) (rowOf ws)) bitsLt_bf16_f32

/-! ## The body's rectangles -/

/-- Plane `p` of group `g` in the block of packed bytes. -/
abbrev rW (p g : Nat) (hp : p < 3) (hg : g < 101) : Rect S3x3232x512 :=
  Rect.unit (s := S3x3232x512) ![p, g * 32, 0] S1x32x512.size fun a => by
    fin_cases a <;> simp [Shape.size, S1x32x512, S3x3232x512] <;> omega

/-- Block `t` of the activations. -/
abbrev rX (t : Nat) (ht : t < 51) : Rect S51x16x256 :=
  Rect.unit (s := S51x16x256) ![t, 0, 0] S1x16x256.size fun a => by
    fin_cases a <;> simp [Shape.size, S1x16x256, S51x16x256] <;> omega

/-- Row `g` of the group scales. -/
abbrev rG (g : Nat) (hg : g < 101) : Rect S101x512 :=
  Rect.unit (s := S101x512) ![g, 0] S1x512.size fun a => by
    fin_cases a <;> simp [Shape.size, S1x512, S101x512] <;> omega

/-! ## The body -/

section

variable (arg1 : Memref sig .tc .vmem S51x16x256 .bf16) (arg2 : Memref sig .tc .vmem S3x3232x512 .i8)
  (arg3 : Memref sig .tc .vmem S1x512 .f32) (arg4 : Memref sig .tc .vmem S101x512 .f32)
  (arg5 : Memref sig .tc .vmem S8x512 .bf16) (harg5 : arg5.IsWhole)

/-- A load of packed bytes. -/
def loadW (p g : Nat) (hp : p < 3) (hg : g < 101) :
    Prog (TpuEff nD τ sig (Elt F) Λ₀ .tc) (Vec F S1x32x512 .i8) :=
  Prog.lift (.load arg2 (rW p g hp hg).toLoadRect (View.loadsAt_vmem h_S1x32x512))

/-- A load of an activation block. -/
def loadX (t : Nat) (ht : t < 51) : Prog (TpuEff nD τ sig (Elt F) Λ₀ .tc) (Vec F S1x16x256 .bf16) :=
  Prog.lift (.load arg1 (rX t ht).toLoadRect (View.loadsAt_vmem h_S1x16x256))

/-- A load of a row of group scales. -/
def loadG (g : Nat) (hg : g < 101) : Prog (TpuEff nD τ sig (Elt F) Λ₀ .tc) (Vec F S1x512 .f32) :=
  Prog.lift (.load arg4 (rG g hg).toLoadRect (View.loadsAt_vmem h_S1x512))

/-- One tile. -/
def tile (t : Nat) (ht : t < 50) (acc : FVec F S8x512 .f32) :
    Prog (TpuEff nD τ sig (Elt F) Λ₀ .tc) (FVec F S8x512 .f32) := do
  let a0 ← loadW arg2 0 (2 * t) (by omega) (by omega)
  let a1 ← loadW arg2 1 (2 * t) (by omega) (by omega)
  let a2 ← loadW arg2 2 (2 * t) (by omega) (by omega)
  let b0 ← loadW arg2 0 (2 * t + 1) (by omega) (by omega)
  let b1 ← loadW arg2 1 (2 * t + 1) (by omega) (by omega)
  let b2 ← loadW arg2 2 (2 * t + 1) (by omega) (by omega)
  let x ← loadX arg1 t (by omega)
  let ga ← loadG arg4 (2 * t) (by omega)
  let gb ← loadG arg4 (2 * t + 1) (by omega)
  pure (step acc a0 a1 a2 b0 b1 b2 x ga gb)

/-- The tiles from `t` on, `n` of them. -/
def tiles : (n t : Nat) → n + t ≤ 50 → FVec F S8x512 .f32 →
    Prog (TpuEff nD τ sig (Elt F) Λ₀ .tc) (FVec F S8x512 .f32)
  | 0, _, _, acc => pure acc
  | n + 1, t, h, acc => do
    let acc' ← tile arg1 arg2 arg4 t (by omega) acc
    tiles n (t + 1) (by omega) acc'

/-- The last group, the scaling and the store. -/
def tail (acc : FVec F S8x512 .f32) : Prog (TpuEff nD τ sig (Elt F) Λ₀ .tc) PUnit := do
  let a0 ← loadW arg2 0 100 (by omega) (by omega)
  let a1 ← loadW arg2 1 100 (by omega) (by omega)
  let a2 ← loadW arg2 2 100 (by omega) (by omega)
  let x ← loadX arg1 50 (by omega)
  let ga ← loadG arg4 100 (by omega)
  let ws ← Prog.lift (.load arg3 (Rect.unit (s := S1x512) ![0, 0] S1x512.size inb_S1x512_S1x512_0_0).toLoadRect
    (View.loadsAt_vmem h_S1x512))
  let _ ← Prog.lift (.load arg5 (Rect.unit (s := S8x512) ![0, 0] S8x512.size inb_S8x512_S8x512_0_0).toLoadRect
    (View.loadsAt_vmem h_S8x512))
  Prog.lift (.store arg5 (Rect.unit (s := S8x512) ![0, 0] S8x512.size inb_S8x512_S8x512_0_0)
    (finish (lastStep acc a0 a1 a2 x ga) ws) Finset.univ
    (View.stores_vmem h_S8x512 (harg5.storeExact_slice rfl _ packedbf16_S8x512_S8x512_0_0) (fun _ => rfl)) (.inl rfl))
  pure ⟨⟩

/-- The whole body. -/
def body : Prog (TpuEff nD τ sig (Elt F) Λ₀ .tc) PUnit := do
  let acc ← tiles arg1 arg2 arg4 50 0 (by omega) (broadcast S8x512 (Scalar.ofBits .f32 0x00000000#32))
  tail arg1 arg2 arg3 arg4 arg5 harg5 acc

end

set_option maxHeartbeats 0 in
/-- The printed body is the loop over the tiles. -/
theorem body_eq (i : grid0.Coords) (arg1 : Memref sig .tc .vmem S51x16x256 .bf16) (harg1 : arg1.IsWhole)
    (arg2 : Memref sig .tc .vmem S3x3232x512 .i8) (harg2 : arg2.IsWhole)
    (arg3 : Memref sig .tc .vmem S1x512 .f32) (harg3 : arg3.IsWhole)
    (arg4 : Memref sig .tc .vmem S101x512 .f32) (harg4 : arg4.IsWhole)
    (arg5 : Memref sig .tc .vmem S8x512 .bf16) (harg5 : arg5.IsWhole) :
    cc0_fp6_linear (F := F) i arg1 harg1 arg2 harg2 arg3 harg3 arg4 harg4 arg5 harg5 =
      body arg1 arg2 arg3 arg4 arg5 harg5 := by
  chain_rfl

end Cert.Kernel

end
-- ==== Proof.TripleKernel.lean ====
/- What the body does to the buffers it is given, whichever they are: the four inputs keep their contents and the
   result ends at `bodyOut` of them. -/
module

public import proofs.«01_k».proof.Proof.BodyKernel
public import proofs.«01_k».proof.Proof.Gen.Kernel.Frame

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-! ## The body's result as a function of its blocks -/

/-- Plane `p` of group `g` of a block of packed bytes. -/
def atW (X : S3x3232x512.Idx → Elt F .i8) (p g : Nat) (hp : p < 3) (hg : g < 101) : Vec F S1x32x512 .i8 :=
  fun j => X ((rW p g hp hg).toLoadRect.idx j)

/-- Block `t` of the activations. -/
def atX (X : S51x16x256.Idx → Elt F .bf16) (t : Nat) (ht : t < 51) : Vec F S1x16x256 .bf16 :=
  fun j => X ((rX t ht).toLoadRect.idx j)

/-- Row `g` of a block of group scales. -/
def atG (X : S101x512.Idx → Elt F .f32) (g : Nat) (hg : g < 101) : Vec F S1x512 .f32 :=
  fun j => X ((rG g hg).toLoadRect.idx j)

/-- The running sum after tile `t`. -/
def tileOut (X1 : S51x16x256.Idx → Elt F .bf16) (X2 : S3x3232x512.Idx → Elt F .i8) (X4 : S101x512.Idx → Elt F .f32)
    (t : Nat) (ht : t < 50) (acc : FVec F S8x512 .f32) : FVec F S8x512 .f32 :=
  step acc (atW X2 0 (2 * t) (by omega) (by omega)) (atW X2 1 (2 * t) (by omega) (by omega))
    (atW X2 2 (2 * t) (by omega) (by omega)) (atW X2 0 (2 * t + 1) (by omega) (by omega))
    (atW X2 1 (2 * t + 1) (by omega) (by omega)) (atW X2 2 (2 * t + 1) (by omega) (by omega))
    (atX X1 t (by omega)) (atG X4 (2 * t) (by omega)) (atG X4 (2 * t + 1) (by omega))

/-- The running sum after the tiles from `t` on, `n` of them. -/
def tilesOut (X1 : S51x16x256.Idx → Elt F .bf16) (X2 : S3x3232x512.Idx → Elt F .i8) (X4 : S101x512.Idx → Elt F .f32) :
    (n t : Nat) → n + t ≤ 50 → FVec F S8x512 .f32 → FVec F S8x512 .f32
  | 0, _, _, acc => acc
  | n + 1, t, h, acc => tilesOut X1 X2 X4 n (t + 1) (by omega) (tileOut X1 X2 X4 t (by omega) acc)

/-- The sum of all the groups. -/
def sumOut (X1 : S51x16x256.Idx → Elt F .bf16) (X2 : S3x3232x512.Idx → Elt F .i8) (X4 : S101x512.Idx → Elt F .f32) :
    FVec F S8x512 .f32 :=
  lastStep (tilesOut X1 X2 X4 50 0 (by omega) (broadcast S8x512 (Scalar.ofBits .f32 0x00000000#32)))
    (atW X2 0 100 (by omega) (by omega)) (atW X2 1 100 (by omega) (by omega)) (atW X2 2 100 (by omega) (by omega))
    (atX X1 50 (by omega)) (atG X4 100 (by omega))

/-- What the body stores. -/
def bodyOut (X1 : S51x16x256.Idx → Elt F .bf16) (X2 : S3x3232x512.Idx → Elt F .i8) (X3 : S1x512.Idx → Elt F .f32)
    (X4 : S101x512.Idx → Elt F .f32) : FVec F S8x512 .bf16 :=
  finish (sumOut X1 X2 X4) X3

/-! ## Loads and the store through any memref -/

section Access

variable (c : Dev nD) (E : Set ℕ)

/-- A load reads the contents the memref is owned at. -/
theorem wp_load_owns {s : Shape} {e : EltTy} {α : Type} (m : Memref sig .tc .vmem s e) (r : Rect s)
    (hl : m.view.LoadsAt r.toLoadRect) (X : s.Idx → Elt F e)
    (k : (r.toLoadRect.shape.Idx → Elt F e) → Prog (TpuEff nD τ sig (Elt F) Λ₀ .tc) α) (Q : α → sProp 𝕄)
    (v : r.toLoadRect.shape.Idx → Elt F e) (hv : ∀ j, v j = X (r.toLoadRect.idx j)) :
    iprop(owns (c : Thread nD τ) m fullShare X ∗ (owns (c : Thread nD τ) m fullShare X -∗
        wp frame (wpE (defs₀ (F := F)) Variants.none c none) E (k v) Q))
      ⊢ wp frame (wpE (defs₀ (F := F)) Variants.none c none) E (.op (.load m r.toLoadRect hl) k) Q := by
  obtain rfl : v = fun j => X (r.toLoadRect.idx j) := funext hv
  unfold owns
  iintro ⟨⟨%f, %hf, H⟩, Hk⟩
  iapply (wp_load (defs := defs₀ (F := F)) (c := (c : Thread nD τ)) Variants.none none E (m := m) (r := r.toLoadRect) (hl := hl)
    (k := k) (Q := Q) (f := f) (View.setOn_subset_set _ _)) $$ H
  iintro H
  subst hf
  iapply Hk
  iexists f
  isplitr
  · ipureintro; rfl
  · iexact H

/-- A store over the whole of a whole memref leaves it at what is stored. -/
theorem wp_store_owns {s : Shape} {e : EltTy} {α : Type} (m : Memref sig .tc .vmem s e) (hm : m.IsWhole)
    {off : Fin s.rank → Nat} (hoff : off = fun _ => 0) (inb : ∀ a, off a + s.size a ≤ s.size a)
    (w : (Rect.unit (s := s) off s.size inb).shape.Idx → Elt F e)
    (hx : (m.access (Rect.unit (s := s) off s.size inb)).Stores Finset.univ)
    (hu : Finset.univ = Finset.univ ∨ ∀ a, (Rect.unit (s := s) off s.size inb).stride a = 1) (X : s.Idx → Elt F e)
    (k : PUnit → Prog (TpuEff nD τ sig (Elt F) Λ₀ .tc) α) (Q : α → sProp 𝕄) :
    iprop(owns (c : Thread nD τ) m fullShare X ∗ (owns (c : Thread nD τ) m fullShare w -∗
        wp frame (wpE (defs₀ (F := F)) Variants.none c none) E (k ⟨⟩) Q))
      ⊢ wp frame (wpE (defs₀ (F := F)) Variants.none c none) E
          (.op (.store m (Rect.unit (s := s) off s.size inb) w Finset.univ hx hu) k) Q := by
  obtain ⟨⟨sp, i, hκ⟩, hs, hsh, he, hb⟩ := hm
  dsimp only at hs
  subst hs; subst hsh; subst he
  obtain rfl := eq_of_heq hb
  rw [owns_whole, owns_whole]
  iintro ⟨H, Hk⟩
  have hsub : ((Memref.whole (⟨.vmem, i, hκ⟩ : Ref sig .tc)).access (Rect.unit (s := _) off _ inb)).setOn Finset.univ
      ⊆ Finset.univ := Finset.subset_univ _
  iapply (wp_store (defs := defs₀ (F := F)) (c := (c : Thread nD τ)) Variants.none none E
    (m := (Memref.whole (⟨.vmem, i, hκ⟩ : Ref sig .tc))) (r := Rect.unit off _ inb) (w := w) (Mk := Finset.univ) (hx := hx) (hm := hu)
    (k := k) (Q := Q) (f := X) hsub) $$ H
  iintro H
  rw [Memref.write_access_unit_zero_univ (Elt F) _ hoff inb]
  iapply Hk
  iexact H

end Access

/-! ## The body -/

section Triples

variable (c : Dev nD) (E : Set ℕ)
  (arg1 : Memref sig .tc .vmem S51x16x256 .bf16) (arg2 : Memref sig .tc .vmem S3x3232x512 .i8)
  (arg3 : Memref sig .tc .vmem S1x512 .f32) (arg4 : Memref sig .tc .vmem S101x512 .f32)
  (arg5 : Memref sig .tc .vmem S8x512 .bf16)
  (X1 : S51x16x256.Idx → Elt F .bf16) (X2 : S3x3232x512.Idx → Elt F .i8) (X3 : S1x512.Idx → Elt F .f32)
  (X4 : S101x512.Idx → Elt F .f32)

/-- The five memrefs at their contents, `Y` the result's. -/
def five (Y : S8x512.Idx → Elt F .bf16) : sProp 𝕄 :=
  iprop(owns (c : Thread nD τ) arg1 fullShare X1 ∗ owns (c : Thread nD τ) arg2 fullShare X2
    ∗ owns (c : Thread nD τ) arg3 fullShare X3 ∗ owns (c : Thread nD τ) arg4 fullShare X4
    ∗ owns (c : Thread nD τ) arg5 fullShare Y)

/-- A program that returns `v` and takes the memrefs from `Y` to `Y'`. -/
def Gives {α : Type} (Y Y' : S8x512.Idx → Elt F .bf16) (p : Prog (TpuEff nD τ sig (Elt F) Λ₀ .tc) α) (v : α) : Prop :=
  ∀ K : α → sProp 𝕄, iprop(five c arg1 arg2 arg3 arg4 arg5 X1 X2 X3 X4 Y ∗ (five c arg1 arg2 arg3 arg4 arg5 X1 X2 X3 X4 Y' -∗ K v))
    ⊢ wp frame (wpE (defs₀ (F := F)) Variants.none c none) E p K

variable {c E arg1 arg2 arg3 arg4 arg5 X1 X2 X3 X4}

/-- Returning a value leaves the blocks as they are. -/
theorem Gives.pure {α : Type} {Y : S8x512.Idx → Elt F .bf16} (v : α) :
    Gives c E arg1 arg2 arg3 arg4 arg5 X1 X2 X3 X4 Y Y (pure v) v := by
  intro K
  rw [Prog.pure_eq_ret]
  refine BIBase.Entails.trans ?_ (le_wp_ret _ _ _ v K)
  iintro ⟨H, Hk⟩
  iapply Hk
  iexact H

/-- One part of the body after another. -/
theorem Gives.bind {α β : Type} {Y Y' Y'' : S8x512.Idx → Elt F .bf16} {p : Prog (TpuEff nD τ sig (Elt F) Λ₀ .tc) α}
    {f : α → Prog (TpuEff nD τ sig (Elt F) Λ₀ .tc) β} {v : α} {w : β}
    (hp : Gives c E arg1 arg2 arg3 arg4 arg5 X1 X2 X3 X4 Y Y' p v)
    (hf : Gives c E arg1 arg2 arg3 arg4 arg5 X1 X2 X3 X4 Y' Y'' (f v) w) :
    Gives c E arg1 arg2 arg3 arg4 arg5 X1 X2 X3 X4 Y Y'' (p >>= f) w := by
  intro K
  rw [wp_bind]
  refine BIBase.Entails.trans ?_ (hp _)
  iintro ⟨H, Hk⟩
  isplitl [H]; · iexact H
  iintro H
  iapply (hf K)
  isplitl [H]; · iexact H
  iexact Hk

/-- Loading a tile of activations. -/
theorem gives_loadX {Y : S8x512.Idx → Elt F .bf16} (t : Nat) (ht : t < 51) :
    Gives c E arg1 arg2 arg3 arg4 arg5 X1 X2 X3 X4 Y Y (loadX arg1 t ht) (atX X1 t ht) := by
  intro K
  unfold five loadX Prog.lift
  iintro ⟨⟨H1, H2, H3, H4, H5⟩, Hk⟩
  iapply (wp_load_owns (F := F) c E arg1 (rX t ht) _ X1 _ K (atX X1 t ht) fun _ => rfl)
  isplitl [H1]; · iexact H1
  iintro H1
  iapply (le_wp_ret _ _ _ _ K)
  iapply Hk
  iframe

/-- Loading a block of bytes. -/
theorem gives_loadW {Y : S8x512.Idx → Elt F .bf16} (p g : Nat) (hp : p < 3) (hg : g < 101) :
    Gives c E arg1 arg2 arg3 arg4 arg5 X1 X2 X3 X4 Y Y (loadW arg2 p g hp hg) (atW X2 p g hp hg) := by
  intro K
  unfold five loadW Prog.lift
  iintro ⟨⟨H1, H2, H3, H4, H5⟩, Hk⟩
  iapply (wp_load_owns (F := F) c E arg2 (rW p g hp hg) _ X2 _ K (atW X2 p g hp hg) fun _ => rfl)
  isplitl [H2]; · iexact H2
  iintro H2
  iapply (le_wp_ret _ _ _ _ K)
  iapply Hk
  iframe

/-- Loading a row of group scales. -/
theorem gives_loadG {Y : S8x512.Idx → Elt F .bf16} (g : Nat) (hg : g < 101) :
    Gives c E arg1 arg2 arg3 arg4 arg5 X1 X2 X3 X4 Y Y (loadG arg4 g hg) (atG X4 g hg) := by
  intro K
  unfold five loadG Prog.lift
  iintro ⟨⟨H1, H2, H3, H4, H5⟩, Hk⟩
  iapply (wp_load_owns (F := F) c E arg4 (rG g hg) _ X4 _ K (atG X4 g hg) fun _ => rfl)
  isplitl [H4]; · iexact H4
  iintro H4
  iapply (le_wp_ret _ _ _ _ K)
  iapply Hk
  iframe

/-- One tile. -/
theorem gives_tile {Y : S8x512.Idx → Elt F .bf16} (t : Nat) (ht : t < 50) (acc : FVec F S8x512 .f32) :
    Gives c E arg1 arg2 arg3 arg4 arg5 X1 X2 X3 X4 Y Y (tile arg1 arg2 arg4 t ht acc) (tileOut X1 X2 X4 t ht acc) :=
  .bind (gives_loadW _ _ _ _) <| .bind (gives_loadW _ _ _ _) <| .bind (gives_loadW _ _ _ _) <|
  .bind (gives_loadW _ _ _ _) <| .bind (gives_loadW _ _ _ _) <| .bind (gives_loadW _ _ _ _) <|
  .bind (gives_loadX _ _) <| .bind (gives_loadG _ _) <| .bind (gives_loadG _ _) <| .pure _

/-- A run of tiles. -/
theorem gives_tiles {Y : S8x512.Idx → Elt F .bf16} : ∀ (n t : Nat) (h : n + t ≤ 50) (acc : FVec F S8x512 .f32),
    Gives c E arg1 arg2 arg3 arg4 arg5 X1 X2 X3 X4 Y Y (tiles arg1 arg2 arg4 n t h acc) (tilesOut X1 X2 X4 n t h acc)
  | 0, _, _, acc => .pure acc
  | n + 1, t, h, acc => .bind (gives_tile t _ acc) (gives_tiles n (t + 1) _ _)

/-- The last group, the scaling and the store. -/
theorem gives_tail (harg5 : arg5.IsWhole) {Y : S8x512.Idx → Elt F .bf16} (acc : FVec F S8x512 .f32) :
    Gives c E arg1 arg2 arg3 arg4 arg5 X1 X2 X3 X4 Y
      (finish (lastStep acc (atW X2 0 100 (by omega) (by omega)) (atW X2 1 100 (by omega) (by omega))
        (atW X2 2 100 (by omega) (by omega)) (atX X1 50 (by omega)) (atG X4 100 (by omega))) X3)
      (tail arg1 arg2 arg3 arg4 arg5 harg5 acc) ⟨⟩ := by
  refine .bind (gives_loadW _ _ _ _) <| .bind (gives_loadW _ _ _ _) <| .bind (gives_loadW _ _ _ _) <|
    .bind (gives_loadX _ _) <| .bind (gives_loadG _ _) ?_
  intro K
  unfold five Prog.lift
  simp only [Prog.bind_op, Prog.bind_ret]
  have hz : (![0, 0] : Fin 2 → Nat) = fun _ => 0 := funext fun a => by fin_cases a <;> rfl
  have hX3 : ∀ j : S1x512.Idx, X3 j =
      X3 ((Rect.unit (s := S1x512) ![0, 0] S1x512.size inb_S1x512_S1x512_0_0).toLoadRect.idx j) := fun j =>
    congrArg X3 (funext fun a => Fin.ext (by
      show (j a : Nat) = (![0, 0] : Fin 2 → Nat) a + 1 * (j a : Nat)
      rw [hz]; simp))
  iintro ⟨⟨H1, H2, H3, H4, H5⟩, Hk⟩
  iapply (wp_load_owns (F := F) c E arg3 (Rect.unit (s := S1x512) ![0, 0] S1x512.size inb_S1x512_S1x512_0_0) _ X3 _ K X3 hX3)
  isplitl [H3]; · iexact H3
  iintro H3
  iapply (wp_load_owns (F := F) c E arg5 _ _ Y _ K _ fun _ => rfl)
  isplitl [H5]; · iexact H5
  iintro H5
  iapply (wp_store_owns (F := F) c E arg5 harg5 hz _ _ _ _ Y _ K)
  isplitl [H5]; · iexact H5
  iintro H5
  iapply (le_wp_ret _ _ _ _ K)
  iapply Hk
  iframe

/-- The printed body leaves its result buffer at `bodyOut` of its inputs. -/
theorem sound_body (i : grid0.Coords) (harg1 : arg1.IsWhole) (harg2 : arg2.IsWhole) (harg3 : arg3.IsWhole)
    (harg4 : arg4.IsWhole) (harg5 : arg5.IsWhole) (Y : S8x512.Idx → Elt F .bf16) :
    Gives c E arg1 arg2 arg3 arg4 arg5 X1 X2 X3 X4 Y (bodyOut X1 X2 X3 X4)
      (cc0_fp6_linear i arg1 harg1 arg2 harg2 arg3 harg3 arg4 harg4 arg5 harg5) ⟨⟩ := by
  rw [body_eq]
  exact .bind (gives_tiles 50 0 _ _) (gives_tail harg5 _)

end Triples

end Cert.Kernel

end
-- ==== Proof.FrameKernel.lean ====
/- The frame: the program runs, leaves its arguments as they were and every semaphore at zero. Nothing is said of what
   the staging buffers hold. -/
module

public import proofs.«01_k».proof.Proof.TripleKernel

@[expose] public section

set_option maxRecDepth 16384

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the region finds them; of the staging buffers nothing is recorded. -/
def plainDats (_ : Fin 1) (c : Dev nD) : Dat τ (Elt F) Unit ℕ (UR sig nD τ) ℕ cfg0 c where
  A w := Gen.V m c (Pipeline.arrRef spec0 w)
  after w _ := fun _ => Classical.arbitrary _
  Φ _ := Pipeline.ΦA spec0 c
  q _ := fullShare
  owed _ := 0

/-- From any staging contents the body runs to some staging contents. -/
theorem plain_body (c : Dev nD) :
    BodyObligationLoose (plainDats m 0 c) (defs₀ (F := F)) Variants.none () Set.univ (fun _ => true) := fun t => by
  rw [Gen.bigSep_W0]
  simp only
  rw [show (plainDats m 0 c).Φ t.succ = (plainDats m 0 c).Φ t.castSucc from rfl,
    show (plainDats m 0 c).owesAt () t.succ = (plainDats m 0 c).owesAt () t.castSucc from rfl]
  iintro ⟨HΦ, Ho, ⟨%X1, H1⟩, ⟨%X2, H2⟩, ⟨%X3, H3⟩, ⟨%X4, H4⟩, ⟨%X5, H5⟩⟩
  iapply (sound_body (F := F) (c := c) (E := Set.univ) (X1 := X1) (X2 := X2) (X3 := X3) (X4 := X4) (grid0.coords t)
    _ _ _ _ _ X5 _)
  unfold five
  isplitl [H1 H2 H3 H4 H5]
  · iframe
  iintro ⟨H1, H2, H3, H4, H5⟩
  isplitl [HΦ]; · iexact HΦ
  isplitl [Ho]; · iexact Ho
  isplitl [H1]; · iexists _; iexact H1
  isplitl [H2]; · iexists _; iexact H2
  isplitl [H3]; · iexists _; iexact H3
  isplitl [H4]; · iexists _; iexact H4
  iexists _; iexact H5

set_option backward.isDefEq.respectTransparency.types false in
/-- The program runs; its arguments end as they were and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_around_T_forget cfgs (plainDats m) 0 Gen.launch0 defs₀ Variants.none (fun _ => true) {main_v20} m ρ main
    (hbody := plain_body m)
    (hshare := fun c => (plainDats m 0 c).share_full fun _ => rfl) (howed := fun _ _ => rfl)
    (V₀ := Gen.V0 m) (opss := [Gen.hostOps1]) (hsub := Gen.sfx_sub) (hfresh := Gen.sfx_fresh) (hkeep := Gen.sfx_keeps)
    (hT := by
      intro ops hops op hop b hb
      simp only [List.mem_cons, List.mem_nil_iff, _root_.or_false] at hops
      subst hops
      simp only [Gen.hostOps1, List.mem_cons, List.mem_nil_iff, _root_.or_false] at hop
      subst hop
      simp only [StableHlo.reshape_writes, Finset.mem_singleton] at hb
      rw [Finset.mem_singleton]
      exact Proc.devRef_injective _ hb)
    (hmain := Gen.hmain m Variants.none) (hA := fun _ _ => rfl) (hΦ := fun _ _ => rfl)
    (Q' := _) (hQ' := fun r h => ⟨fun c => by
      have key := fun b hb hb' hT => ((h.1 c).2 b (Finset.mem_sdiff.mpr ⟨Pipeline.mem_restRefs_of b hb hb', hT⟩))
      exact ⟨(key main_arg0 (by decide) (by decide) (by decide)).trans (Gen.V_main_arg0 m c),
        (key main_arg1 (by decide) (by decide) (by decide)).trans (Gen.V_main_arg1 m c),
        (key main_arg2 (by decide) (by decide) (by decide)).trans (Gen.V_main_arg2 m c),
        (key main_arg3 (by decide) (by decide) (by decide)).trans (Gen.V_main_arg3 m c)⟩, h.2⟩)

end Cert.Kernel

end
-- ==== Proof.BodyIdeal.lean ====
/- The kernel's body as a loop over its tiles. A tile is two groups of 128 weights: six loads of packed
   bytes, one block of the activations and two rows of group scales. `step` is what a tile adds to the
   running sum, `body` runs the fifty tiles, the last group alone, and the store; `body_eq` says that the
   printed body is this program. -/
module

public import proofs.«01_k».proof.KernelIdeal
public import proofs.«01_k».proof.Proof.Gen.KernelIdeal
public meta import Idealize.ShloMosaic.Lib.Pipeline.Regions

@[expose] public section

set_option maxRecDepth 16384

noncomputable section

namespace Cert.KernelIdeal

open Idealize.ShloMosaic Idealize.SL.Sem
open Facts₀ Facts

variable {F : FTy → Type} [FloatOps F] [Facts]

/-! ## What one tile computes -/

/-- A loaded block of packed bytes, four bytes to a word. -/
def words (v : Vec F S1x32x512 .i8) : IVec S8x512 32 :=
  bitcast S8x512 32 (shapeCast S32x512 v shapeCasts_S1x32x512_S32x512) bitcasts_S32x512_w8_S8x512_w32

/-- First of the four codes of each byte triple. -/
def code0 (p0 : IVec S8x512 32) : IVec S8x512 32 := andi p0 (broadcast S8x512 1061109567#32)

/-- Second code: four bits of the second byte over two of the first. -/
def code1 (p0 p1 : IVec S8x512 32) : IVec S8x512 32 :=
  ori (andi (shli p1 (broadcast S8x512 2#32)) (broadcast S8x512 1010580540#32))
    (andi (shrui p0 (broadcast S8x512 6#32)) (broadcast S8x512 50529027#32))

/-- Third code: two bits of the third byte over four of the second. -/
def code2 (p1 p2 : IVec S8x512 32) : IVec S8x512 32 :=
  ori (andi (shrui p1 (broadcast S8x512 4#32)) (broadcast S8x512 252645135#32))
    (andi (shli p2 (broadcast S8x512 4#32)) (broadcast S8x512 808464432#32))

/-- Fourth code: the six high bits of the third byte. -/
def code3 (p2 : IVec S8x512 32) : IVec S8x512 32 :=
  andi (shrui p2 (broadcast S8x512 2#32)) (broadcast S8x512 1061109567#32)

/-- A word of codes as weights: the sign bit moved to the top of each byte, the byte read as a float. -/
def weight (c : IVec S8x512 32) : FVec F S32x512 .bf16 :=
  extf .bf16 (bitcastToFloat .fp8e5m2 (bitcast S32x512 8
    (andi (addi c (broadcast S8x512 1616928864#32)) (broadcast S8x512 2678038431#32))
    bitcasts_S8x512_w32_S32x512_w8)) bitsLt_fp8e5m2_bf16

/-- The weights of two groups, one code after another. -/
def tileW (a0 a1 a2 b0 b1 b2 : IVec S8x512 32) : FVec F S256x512 .bf16 :=
  concatenate S256x512 0
    [⟨S32x512, weight (code0 a0)⟩, ⟨S32x512, weight (code1 a0 a1)⟩, ⟨S32x512, weight (code2 a1 a2)⟩,
      ⟨S32x512, weight (code3 a2)⟩, ⟨S32x512, weight (code0 b0)⟩, ⟨S32x512, weight (code1 b0 b1)⟩,
      ⟨S32x512, weight (code2 b1 b2)⟩, ⟨S32x512, weight (code3 b2)⟩]
    concatenates_S32x512_S32x512_S32x512_S32x512_S32x512_S32x512_S32x512_S32x512_S256x512_d0

/-- The weights of the last group. -/
def lastW (a0 a1 a2 : IVec S8x512 32) : FVec F S128x512 .bf16 :=
  concatenate S128x512 0
    [⟨S32x512, weight (code0 a0)⟩, ⟨S32x512, weight (code1 a0 a1)⟩, ⟨S32x512, weight (code2 a1 a2)⟩,
      ⟨S32x512, weight (code3 a2)⟩]
    concatenates_S32x512_S32x512_S32x512_S32x512_S128x512_d0

/-- A tile's product: sixteen rows, eight for each of its two groups. -/
def tileDot (w : FVec F S256x512 .bf16) (x : Vec F S1x16x256 .bf16) : FVec F S16x512 .f32 :=
  matmul dot_S16x256_S256x512_S16x512_1_0_0_1_n_n none (shapeCast S16x256 x shapeCasts_S1x16x256_S16x256) w
    (constant S16x512 .f32 0x00000000#32)

/-- The last group's product, over the first half of the activation block. -/
def lastDot (w : FVec F S128x512 .bf16) (x : Vec F S1x16x256 .bf16) : FVec F S16x512 .f32 :=
  matmul dot_S16x128_S128x512_S16x512_1_0_0_1_n_n none
    (extractStridedSlice S16x128 ![0, 0] (shapeCast S16x256 x shapeCasts_S1x16x256_S16x256)
      slices_S16x256_o0_0_S16x128) w
    (constant S16x512 .f32 0x00000000#32)

/-- One row of scales, at every row of the sum. -/
def rowOf (g : Vec F S1x512 .f32) : FVec F S8x512 .f32 :=
  broadcastTo S8x512 (shapeCast S1x512 g shapeCasts_S1x512_S1x512) broadcasts_S1x512_S8x512

/-- The upper eight rows of a product, scaled and added. -/
def addTop (acc : FVec F S8x512 .f32) (p : FVec F S16x512 .f32) (g : Vec F S1x512 .f32) : FVec F S8x512 .f32 :=
  addf acc (mulf (extractStridedSlice S8x512 ![0, 0] p slices_S16x512_o0_0_S8x512) (rowOf g))

/-- The lower eight rows of a product, scaled and added. -/
def addBot (acc : FVec F S8x512 .f32) (p : FVec F S16x512 .f32) (g : Vec F S1x512 .f32) : FVec F S8x512 .f32 :=
  addf acc (mulf (extractStridedSlice S8x512 ![8, 0] p slices_S16x512_o8_0_S8x512) (rowOf g))

/-- The running sum after a tile. -/
def step (acc : FVec F S8x512 .f32) (a0 a1 a2 b0 b1 b2 : Vec F S1x32x512 .i8) (x : Vec F S1x16x256 .bf16)
    (ga gb : Vec F S1x512 .f32) : FVec F S8x512 .f32 :=
  addBot (addTop acc (tileDot (tileW (words a0) (words a1) (words a2) (words b0) (words b1) (words b2)) x) ga)
    (tileDot (tileW (words a0) (words a1) (words a2) (words b0) (words b1) (words b2)) x) gb

/-- The running sum after the last group. -/
def lastStep (acc : FVec F S8x512 .f32) (a0 a1 a2 : Vec F S1x32x512 .i8) (x : Vec F S1x16x256 .bf16)
    (ga : Vec F S1x512 .f32) : FVec F S8x512 .f32 :=
  addTop acc (lastDot (lastW (words a0) (words a1) (words a2)) x) ga

/-- What the body stores: the sum times 4096 and the column scales, rounded. -/
def finish (acc : FVec F S8x512 .f32) (ws : Vec F S1x512 .f32) : FVec F S8x512 .bf16 :=
  truncf .bf16 (mulf (mulf acc (broadcast S8x512 (Scalar.ofBits .f32 0x45800000#32))) (rowOf ws)) bitsLt_bf16_f32

/-! ## The body's rectangles -/

/-- Plane `p` of group `g` in the block of packed bytes. -/
abbrev rW (p g : Nat) (hp : p < 3) (hg : g < 101) : Rect S3x3232x512 :=
  Rect.unit (s := S3x3232x512) ![p, g * 32, 0] S1x32x512.size fun a => by
    fin_cases a <;> simp [Shape.size, S1x32x512, S3x3232x512] <;> omega

/-- Block `t` of the activations. -/
abbrev rX (t : Nat) (ht : t < 51) : Rect S51x16x256 :=
  Rect.unit (s := S51x16x256) ![t, 0, 0] S1x16x256.size fun a => by
    fin_cases a <;> simp [Shape.size, S1x16x256, S51x16x256] <;> omega

/-- Row `g` of the group scales. -/
abbrev rG (g : Nat) (hg : g < 101) : Rect S101x512 :=
  Rect.unit (s := S101x512) ![g, 0] S1x512.size fun a => by
    fin_cases a <;> simp [Shape.size, S1x512, S101x512] <;> omega

/-! ## The body -/

section

variable (arg1 : Memref sig .tc .vmem S51x16x256 .bf16) (arg2 : Memref sig .tc .vmem S3x3232x512 .i8)
  (arg3 : Memref sig .tc .vmem S1x512 .f32) (arg4 : Memref sig .tc .vmem S101x512 .f32)
  (arg5 : Memref sig .tc .vmem S8x512 .bf16) (harg5 : arg5.IsWhole)

/-- A load of packed bytes. -/
def loadW (p g : Nat) (hp : p < 3) (hg : g < 101) :
    Prog (TpuEff nD τ sig (Elt F) Λ₀ .tc) (Vec F S1x32x512 .i8) :=
  Prog.lift (.load arg2 (rW p g hp hg).toLoadRect (View.loadsAt_vmem h_S1x32x512))

/-- A load of an activation block. -/
def loadX (t : Nat) (ht : t < 51) : Prog (TpuEff nD τ sig (Elt F) Λ₀ .tc) (Vec F S1x16x256 .bf16) :=
  Prog.lift (.load arg1 (rX t ht).toLoadRect (View.loadsAt_vmem h_S1x16x256))

/-- A load of a row of group scales. -/
def loadG (g : Nat) (hg : g < 101) : Prog (TpuEff nD τ sig (Elt F) Λ₀ .tc) (Vec F S1x512 .f32) :=
  Prog.lift (.load arg4 (rG g hg).toLoadRect (View.loadsAt_vmem h_S1x512))

/-- One tile. -/
def tile (t : Nat) (ht : t < 50) (acc : FVec F S8x512 .f32) :
    Prog (TpuEff nD τ sig (Elt F) Λ₀ .tc) (FVec F S8x512 .f32) := do
  let a0 ← loadW arg2 0 (2 * t) (by omega) (by omega)
  let a1 ← loadW arg2 1 (2 * t) (by omega) (by omega)
  let a2 ← loadW arg2 2 (2 * t) (by omega) (by omega)
  let b0 ← loadW arg2 0 (2 * t + 1) (by omega) (by omega)
  let b1 ← loadW arg2 1 (2 * t + 1) (by omega) (by omega)
  let b2 ← loadW arg2 2 (2 * t + 1) (by omega) (by omega)
  let x ← loadX arg1 t (by omega)
  let ga ← loadG arg4 (2 * t) (by omega)
  let gb ← loadG arg4 (2 * t + 1) (by omega)
  pure (step acc a0 a1 a2 b0 b1 b2 x ga gb)

/-- The tiles from `t` on, `n` of them. -/
def tiles : (n t : Nat) → n + t ≤ 50 → FVec F S8x512 .f32 →
    Prog (TpuEff nD τ sig (Elt F) Λ₀ .tc) (FVec F S8x512 .f32)
  | 0, _, _, acc => pure acc
  | n + 1, t, h, acc => do
    let acc' ← tile arg1 arg2 arg4 t (by omega) acc
    tiles n (t + 1) (by omega) acc'

/-- The last group, the scaling and the store. -/
def tail (acc : FVec F S8x512 .f32) : Prog (TpuEff nD τ sig (Elt F) Λ₀ .tc) PUnit := do
  let a0 ← loadW arg2 0 100 (by omega) (by omega)
  let a1 ← loadW arg2 1 100 (by omega) (by omega)
  let a2 ← loadW arg2 2 100 (by omega) (by omega)
  let x ← loadX arg1 50 (by omega)
  let ga ← loadG arg4 100 (by omega)
  let ws ← Prog.lift (.load arg3 (Rect.unit (s := S1x512) ![0, 0] S1x512.size inb_S1x512_S1x512_0_0).toLoadRect
    (View.loadsAt_vmem h_S1x512))
  let _ ← Prog.lift (.load arg5 (Rect.unit (s := S8x512) ![0, 0] S8x512.size inb_S8x512_S8x512_0_0).toLoadRect
    (View.loadsAt_vmem h_S8x512))
  Prog.lift (.store arg5 (Rect.unit (s := S8x512) ![0, 0] S8x512.size inb_S8x512_S8x512_0_0)
    (finish (lastStep acc a0 a1 a2 x ga) ws) Finset.univ
    (View.stores_vmem h_S8x512 (harg5.storeExact_slice rfl _ packedbf16_S8x512_S8x512_0_0) (fun _ => rfl)) (.inl rfl))
  pure ⟨⟩

/-- The whole body. -/
def body : Prog (TpuEff nD τ sig (Elt F) Λ₀ .tc) PUnit := do
  let acc ← tiles arg1 arg2 arg4 50 0 (by omega) (broadcast S8x512 (Scalar.ofBits .f32 0x00000000#32))
  tail arg1 arg2 arg3 arg4 arg5 harg5 acc

end

set_option maxHeartbeats 0 in
/-- The printed body is the loop over the tiles. -/
theorem body_eq (i : grid0.Coords) (arg1 : Memref sig .tc .vmem S51x16x256 .bf16) (harg1 : arg1.IsWhole)
    (arg2 : Memref sig .tc .vmem S3x3232x512 .i8) (harg2 : arg2.IsWhole)
    (arg3 : Memref sig .tc .vmem S1x512 .f32) (harg3 : arg3.IsWhole)
    (arg4 : Memref sig .tc .vmem S101x512 .f32) (harg4 : arg4.IsWhole)
    (arg5 : Memref sig .tc .vmem S8x512 .bf16) (harg5 : arg5.IsWhole) :
    cc0_fp6_linear (F := F) i arg1 harg1 arg2 harg2 arg3 harg3 arg4 harg4 arg5 harg5 =
      body arg1 arg2 arg3 arg4 arg5 harg5 := by
  chain_rfl

end Cert.KernelIdeal

end
-- ==== Proof.TripleIdeal.lean ====
/- What the body does to the buffers it is given, whichever they are: the four inputs keep their contents and the
   result ends at `bodyOut` of them. -/
module

public import proofs.«01_k».proof.Proof.BodyIdeal
public import proofs.«01_k».proof.Proof.Gen.KernelIdeal.Frame

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Facts₀ Facts

variable {F : FTy → Type} [FloatOps F]

local notation "𝕄" => MT nD τ sig Unit (Elt F) ℕ (UR sig nD τ) ℕ

/-! ## The body's result as a function of its blocks -/

/-- Plane `p` of group `g` of a block of packed bytes. -/
def atW (X : S3x3232x512.Idx → Elt F .i8) (p g : Nat) (hp : p < 3) (hg : g < 101) : Vec F S1x32x512 .i8 :=
  fun j => X ((rW p g hp hg).toLoadRect.idx j)

/-- Block `t` of the activations. -/
def atX (X : S51x16x256.Idx → Elt F .bf16) (t : Nat) (ht : t < 51) : Vec F S1x16x256 .bf16 :=
  fun j => X ((rX t ht).toLoadRect.idx j)

/-- Row `g` of a block of group scales. -/
def atG (X : S101x512.Idx → Elt F .f32) (g : Nat) (hg : g < 101) : Vec F S1x512 .f32 :=
  fun j => X ((rG g hg).toLoadRect.idx j)

/-- The running sum after tile `t`. -/
def tileOut (X1 : S51x16x256.Idx → Elt F .bf16) (X2 : S3x3232x512.Idx → Elt F .i8) (X4 : S101x512.Idx → Elt F .f32)
    (t : Nat) (ht : t < 50) (acc : FVec F S8x512 .f32) : FVec F S8x512 .f32 :=
  step acc (atW X2 0 (2 * t) (by omega) (by omega)) (atW X2 1 (2 * t) (by omega) (by omega))
    (atW X2 2 (2 * t) (by omega) (by omega)) (atW X2 0 (2 * t + 1) (by omega) (by omega))
    (atW X2 1 (2 * t + 1) (by omega) (by omega)) (atW X2 2 (2 * t + 1) (by omega) (by omega))
    (atX X1 t (by omega)) (atG X4 (2 * t) (by omega)) (atG X4 (2 * t + 1) (by omega))

/-- The running sum after the tiles from `t` on, `n` of them. -/
def tilesOut (X1 : S51x16x256.Idx → Elt F .bf16) (X2 : S3x3232x512.Idx → Elt F .i8) (X4 : S101x512.Idx → Elt F .f32) :
    (n t : Nat) → n + t ≤ 50 → FVec F S8x512 .f32 → FVec F S8x512 .f32
  | 0, _, _, acc => acc
  | n + 1, t, h, acc => tilesOut X1 X2 X4 n (t + 1) (by omega) (tileOut X1 X2 X4 t (by omega) acc)

/-- The sum of all the groups. -/
def sumOut (X1 : S51x16x256.Idx → Elt F .bf16) (X2 : S3x3232x512.Idx → Elt F .i8) (X4 : S101x512.Idx → Elt F .f32) :
    FVec F S8x512 .f32 :=
  lastStep (tilesOut X1 X2 X4 50 0 (by omega) (broadcast S8x512 (Scalar.ofBits .f32 0x00000000#32)))
    (atW X2 0 100 (by omega) (by omega)) (atW X2 1 100 (by omega) (by omega)) (atW X2 2 100 (by omega) (by omega))
    (atX X1 50 (by omega)) (atG X4 100 (by omega))

/-- What the body stores. -/
def bodyOut (X1 : S51x16x256.Idx → Elt F .bf16) (X2 : S3x3232x512.Idx → Elt F .i8) (X3 : S1x512.Idx → Elt F .f32)
    (X4 : S101x512.Idx → Elt F .f32) : FVec F S8x512 .bf16 :=
  finish (sumOut X1 X2 X4) X3

/-! ## Loads and the store through any memref -/

section Access

variable (c : Dev nD) (E : Set ℕ)

/-- A load reads the contents the memref is owned at. -/
theorem wp_load_owns {s : Shape} {e : EltTy} {α : Type} (m : Memref sig .tc .vmem s e) (r : Rect s)
    (hl : m.view.LoadsAt r.toLoadRect) (X : s.Idx → Elt F e)
    (k : (r.toLoadRect.shape.Idx → Elt F e) → Prog (TpuEff nD τ sig (Elt F) Λ₀ .tc) α) (Q : α → sProp 𝕄)
    (v : r.toLoadRect.shape.Idx → Elt F e) (hv : ∀ j, v j = X (r.toLoadRect.idx j)) :
    iprop(owns (c : Thread nD τ) m fullShare X ∗ (owns (c : Thread nD τ) m fullShare X -∗
        wp frame (wpE (defs₀ (F := F)) Variants.none c none) E (k v) Q))
      ⊢ wp frame (wpE (defs₀ (F := F)) Variants.none c none) E (.op (.load m r.toLoadRect hl) k) Q := by
  obtain rfl : v = fun j => X (r.toLoadRect.idx j) := funext hv
  unfold owns
  iintro ⟨⟨%f, %hf, H⟩, Hk⟩
  iapply (wp_load (defs := defs₀ (F := F)) (c := (c : Thread nD τ)) Variants.none none E (m := m) (r := r.toLoadRect) (hl := hl)
    (k := k) (Q := Q) (f := f) (View.setOn_subset_set _ _)) $$ H
  iintro H
  subst hf
  iapply Hk
  iexists f
  isplitr
  · ipureintro; rfl
  · iexact H

/-- A store over the whole of a whole memref leaves it at what is stored. -/
theorem wp_store_owns {s : Shape} {e : EltTy} {α : Type} (m : Memref sig .tc .vmem s e) (hm : m.IsWhole)
    {off : Fin s.rank → Nat} (hoff : off = fun _ => 0) (inb : ∀ a, off a + s.size a ≤ s.size a)
    (w : (Rect.unit (s := s) off s.size inb).shape.Idx → Elt F e)
    (hx : (m.access (Rect.unit (s := s) off s.size inb)).Stores Finset.univ)
    (hu : Finset.univ = Finset.univ ∨ ∀ a, (Rect.unit (s := s) off s.size inb).stride a = 1) (X : s.Idx → Elt F e)
    (k : PUnit → Prog (TpuEff nD τ sig (Elt F) Λ₀ .tc) α) (Q : α → sProp 𝕄) :
    iprop(owns (c : Thread nD τ) m fullShare X ∗ (owns (c : Thread nD τ) m fullShare w -∗
        wp frame (wpE (defs₀ (F := F)) Variants.none c none) E (k ⟨⟩) Q))
      ⊢ wp frame (wpE (defs₀ (F := F)) Variants.none c none) E
          (.op (.store m (Rect.unit (s := s) off s.size inb) w Finset.univ hx hu) k) Q := by
  obtain ⟨⟨sp, i, hκ⟩, hs, hsh, he, hb⟩ := hm
  dsimp only at hs
  subst hs; subst hsh; subst he
  obtain rfl := eq_of_heq hb
  rw [owns_whole, owns_whole]
  iintro ⟨H, Hk⟩
  have hsub : ((Memref.whole (⟨.vmem, i, hκ⟩ : Ref sig .tc)).access (Rect.unit (s := _) off _ inb)).setOn Finset.univ
      ⊆ Finset.univ := Finset.subset_univ _
  iapply (wp_store (defs := defs₀ (F := F)) (c := (c : Thread nD τ)) Variants.none none E
    (m := (Memref.whole (⟨.vmem, i, hκ⟩ : Ref sig .tc))) (r := Rect.unit off _ inb) (w := w) (Mk := Finset.univ) (hx := hx) (hm := hu)
    (k := k) (Q := Q) (f := X) hsub) $$ H
  iintro H
  rw [Memref.write_access_unit_zero_univ (Elt F) _ hoff inb]
  iapply Hk
  iexact H

end Access

/-! ## The body -/

section Triples

variable (c : Dev nD) (E : Set ℕ)
  (arg1 : Memref sig .tc .vmem S51x16x256 .bf16) (arg2 : Memref sig .tc .vmem S3x3232x512 .i8)
  (arg3 : Memref sig .tc .vmem S1x512 .f32) (arg4 : Memref sig .tc .vmem S101x512 .f32)
  (arg5 : Memref sig .tc .vmem S8x512 .bf16)
  (X1 : S51x16x256.Idx → Elt F .bf16) (X2 : S3x3232x512.Idx → Elt F .i8) (X3 : S1x512.Idx → Elt F .f32)
  (X4 : S101x512.Idx → Elt F .f32)

/-- The five memrefs at their contents, `Y` the result's. -/
def five (Y : S8x512.Idx → Elt F .bf16) : sProp 𝕄 :=
  iprop(owns (c : Thread nD τ) arg1 fullShare X1 ∗ owns (c : Thread nD τ) arg2 fullShare X2
    ∗ owns (c : Thread nD τ) arg3 fullShare X3 ∗ owns (c : Thread nD τ) arg4 fullShare X4
    ∗ owns (c : Thread nD τ) arg5 fullShare Y)

/-- A program that returns `v` and takes the memrefs from `Y` to `Y'`. -/
def Gives {α : Type} (Y Y' : S8x512.Idx → Elt F .bf16) (p : Prog (TpuEff nD τ sig (Elt F) Λ₀ .tc) α) (v : α) : Prop :=
  ∀ K : α → sProp 𝕄, iprop(five c arg1 arg2 arg3 arg4 arg5 X1 X2 X3 X4 Y ∗ (five c arg1 arg2 arg3 arg4 arg5 X1 X2 X3 X4 Y' -∗ K v))
    ⊢ wp frame (wpE (defs₀ (F := F)) Variants.none c none) E p K

variable {c E arg1 arg2 arg3 arg4 arg5 X1 X2 X3 X4}

/-- Returning a value leaves the blocks as they are. -/
theorem Gives.pure {α : Type} {Y : S8x512.Idx → Elt F .bf16} (v : α) :
    Gives c E arg1 arg2 arg3 arg4 arg5 X1 X2 X3 X4 Y Y (pure v) v := by
  intro K
  rw [Prog.pure_eq_ret]
  refine BIBase.Entails.trans ?_ (le_wp_ret _ _ _ v K)
  iintro ⟨H, Hk⟩
  iapply Hk
  iexact H

/-- One part of the body after another. -/
theorem Gives.bind {α β : Type} {Y Y' Y'' : S8x512.Idx → Elt F .bf16} {p : Prog (TpuEff nD τ sig (Elt F) Λ₀ .tc) α}
    {f : α → Prog (TpuEff nD τ sig (Elt F) Λ₀ .tc) β} {v : α} {w : β}
    (hp : Gives c E arg1 arg2 arg3 arg4 arg5 X1 X2 X3 X4 Y Y' p v)
    (hf : Gives c E arg1 arg2 arg3 arg4 arg5 X1 X2 X3 X4 Y' Y'' (f v) w) :
    Gives c E arg1 arg2 arg3 arg4 arg5 X1 X2 X3 X4 Y Y'' (p >>= f) w := by
  intro K
  rw [wp_bind]
  refine BIBase.Entails.trans ?_ (hp _)
  iintro ⟨H, Hk⟩
  isplitl [H]; · iexact H
  iintro H
  iapply (hf K)
  isplitl [H]; · iexact H
  iexact Hk

/-- Loading a tile of activations. -/
theorem gives_loadX {Y : S8x512.Idx → Elt F .bf16} (t : Nat) (ht : t < 51) :
    Gives c E arg1 arg2 arg3 arg4 arg5 X1 X2 X3 X4 Y Y (loadX arg1 t ht) (atX X1 t ht) := by
  intro K
  unfold five loadX Prog.lift
  iintro ⟨⟨H1, H2, H3, H4, H5⟩, Hk⟩
  iapply (wp_load_owns (F := F) c E arg1 (rX t ht) _ X1 _ K (atX X1 t ht) fun _ => rfl)
  isplitl [H1]; · iexact H1
  iintro H1
  iapply (le_wp_ret _ _ _ _ K)
  iapply Hk
  iframe

/-- Loading a block of bytes. -/
theorem gives_loadW {Y : S8x512.Idx → Elt F .bf16} (p g : Nat) (hp : p < 3) (hg : g < 101) :
    Gives c E arg1 arg2 arg3 arg4 arg5 X1 X2 X3 X4 Y Y (loadW arg2 p g hp hg) (atW X2 p g hp hg) := by
  intro K
  unfold five loadW Prog.lift
  iintro ⟨⟨H1, H2, H3, H4, H5⟩, Hk⟩
  iapply (wp_load_owns (F := F) c E arg2 (rW p g hp hg) _ X2 _ K (atW X2 p g hp hg) fun _ => rfl)
  isplitl [H2]; · iexact H2
  iintro H2
  iapply (le_wp_ret _ _ _ _ K)
  iapply Hk
  iframe

/-- Loading a row of group scales. -/
theorem gives_loadG {Y : S8x512.Idx → Elt F .bf16} (g : Nat) (hg : g < 101) :
    Gives c E arg1 arg2 arg3 arg4 arg5 X1 X2 X3 X4 Y Y (loadG arg4 g hg) (atG X4 g hg) := by
  intro K
  unfold five loadG Prog.lift
  iintro ⟨⟨H1, H2, H3, H4, H5⟩, Hk⟩
  iapply (wp_load_owns (F := F) c E arg4 (rG g hg) _ X4 _ K (atG X4 g hg) fun _ => rfl)
  isplitl [H4]; · iexact H4
  iintro H4
  iapply (le_wp_ret _ _ _ _ K)
  iapply Hk
  iframe

/-- One tile. -/
theorem gives_tile {Y : S8x512.Idx → Elt F .bf16} (t : Nat) (ht : t < 50) (acc : FVec F S8x512 .f32) :
    Gives c E arg1 arg2 arg3 arg4 arg5 X1 X2 X3 X4 Y Y (tile arg1 arg2 arg4 t ht acc) (tileOut X1 X2 X4 t ht acc) :=
  .bind (gives_loadW _ _ _ _) <| .bind (gives_loadW _ _ _ _) <| .bind (gives_loadW _ _ _ _) <|
  .bind (gives_loadW _ _ _ _) <| .bind (gives_loadW _ _ _ _) <| .bind (gives_loadW _ _ _ _) <|
  .bind (gives_loadX _ _) <| .bind (gives_loadG _ _) <| .bind (gives_loadG _ _) <| .pure _

/-- A run of tiles. -/
theorem gives_tiles {Y : S8x512.Idx → Elt F .bf16} : ∀ (n t : Nat) (h : n + t ≤ 50) (acc : FVec F S8x512 .f32),
    Gives c E arg1 arg2 arg3 arg4 arg5 X1 X2 X3 X4 Y Y (tiles arg1 arg2 arg4 n t h acc) (tilesOut X1 X2 X4 n t h acc)
  | 0, _, _, acc => .pure acc
  | n + 1, t, h, acc => .bind (gives_tile t _ acc) (gives_tiles n (t + 1) _ _)

/-- The last group, the scaling and the store. -/
theorem gives_tail (harg5 : arg5.IsWhole) {Y : S8x512.Idx → Elt F .bf16} (acc : FVec F S8x512 .f32) :
    Gives c E arg1 arg2 arg3 arg4 arg5 X1 X2 X3 X4 Y
      (finish (lastStep acc (atW X2 0 100 (by omega) (by omega)) (atW X2 1 100 (by omega) (by omega))
        (atW X2 2 100 (by omega) (by omega)) (atX X1 50 (by omega)) (atG X4 100 (by omega))) X3)
      (tail arg1 arg2 arg3 arg4 arg5 harg5 acc) ⟨⟩ := by
  refine .bind (gives_loadW _ _ _ _) <| .bind (gives_loadW _ _ _ _) <| .bind (gives_loadW _ _ _ _) <|
    .bind (gives_loadX _ _) <| .bind (gives_loadG _ _) ?_
  intro K
  unfold five Prog.lift
  simp only [Prog.bind_op, Prog.bind_ret]
  have hz : (![0, 0] : Fin 2 → Nat) = fun _ => 0 := funext fun a => by fin_cases a <;> rfl
  have hX3 : ∀ j : S1x512.Idx, X3 j =
      X3 ((Rect.unit (s := S1x512) ![0, 0] S1x512.size inb_S1x512_S1x512_0_0).toLoadRect.idx j) := fun j =>
    congrArg X3 (funext fun a => Fin.ext (by
      show (j a : Nat) = (![0, 0] : Fin 2 → Nat) a + 1 * (j a : Nat)
      rw [hz]; simp))
  iintro ⟨⟨H1, H2, H3, H4, H5⟩, Hk⟩
  iapply (wp_load_owns (F := F) c E arg3 (Rect.unit (s := S1x512) ![0, 0] S1x512.size inb_S1x512_S1x512_0_0) _ X3 _ K X3 hX3)
  isplitl [H3]; · iexact H3
  iintro H3
  iapply (wp_load_owns (F := F) c E arg5 _ _ Y _ K _ fun _ => rfl)
  isplitl [H5]; · iexact H5
  iintro H5
  iapply (wp_store_owns (F := F) c E arg5 harg5 hz _ _ _ _ Y _ K)
  isplitl [H5]; · iexact H5
  iintro H5
  iapply (le_wp_ret _ _ _ _ K)
  iapply Hk
  iframe

/-- The printed body leaves its result buffer at `bodyOut` of its inputs. -/
theorem sound_body (i : grid0.Coords) (harg1 : arg1.IsWhole) (harg2 : arg2.IsWhole) (harg3 : arg3.IsWhole)
    (harg4 : arg4.IsWhole) (harg5 : arg5.IsWhole) (Y : S8x512.Idx → Elt F .bf16) :
    Gives c E arg1 arg2 arg3 arg4 arg5 X1 X2 X3 X4 Y (bodyOut X1 X2 X3 X4)
      (cc0_fp6_linear i arg1 harg1 arg2 harg2 arg3 harg3 arg4 harg4 arg5 harg5) ⟨⟩ := by
  rw [body_eq]
  exact .bind (gives_tiles 50 0 _ _) (gives_tail harg5 _)

end Triples

end Cert.KernelIdeal

end
-- ==== Proof.FrameIdeal.lean ====
/- The frame: the program runs, leaves its arguments as they were and every semaphore at zero. Nothing is said of what
   the staging buffers hold. -/
module

public import proofs.«01_k».proof.Proof.TripleIdeal

@[expose] public section

set_option maxRecDepth 16384

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as the region finds them; of the staging buffers nothing is recorded. -/
def plainDats (_ : Fin 1) (c : Dev nD) : Dat τ (Elt F) Unit ℕ (UR sig nD τ) ℕ cfg0 c where
  A w := Gen.V m c (Pipeline.arrRef spec0 w)
  after w _ := fun _ => Classical.arbitrary _
  Φ _ := Pipeline.ΦA spec0 c
  q _ := fullShare
  owed _ := 0

/-- From any staging contents the body runs to some staging contents. -/
theorem plain_body (c : Dev nD) :
    BodyObligationLoose (plainDats m 0 c) (defs₀ (F := F)) Variants.none () Set.univ (fun _ => true) := fun t => by
  rw [Gen.bigSep_W0]
  simp only
  rw [show (plainDats m 0 c).Φ t.succ = (plainDats m 0 c).Φ t.castSucc from rfl,
    show (plainDats m 0 c).owesAt () t.succ = (plainDats m 0 c).owesAt () t.castSucc from rfl]
  iintro ⟨HΦ, Ho, ⟨%X1, H1⟩, ⟨%X2, H2⟩, ⟨%X3, H3⟩, ⟨%X4, H4⟩, ⟨%X5, H5⟩⟩
  iapply (sound_body (F := F) (c := c) (E := Set.univ) (X1 := X1) (X2 := X2) (X3 := X3) (X4 := X4) (grid0.coords t)
    _ _ _ _ _ X5 _)
  unfold five
  isplitl [H1 H2 H3 H4 H5]
  · iframe
  iintro ⟨H1, H2, H3, H4, H5⟩
  isplitl [HΦ]; · iexact HΦ
  isplitl [Ho]; · iexact Ho
  isplitl [H1]; · iexists _; iexact H1
  isplitl [H2]; · iexists _; iexact H2
  isplitl [H3]; · iexists _; iexact H3
  isplitl [H4]; · iexists _; iexact H4
  iexists _; iexact H5

set_option backward.isDefEq.respectTransparency.types false in
/-- The program runs; its arguments end as they were and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_around_T_forget cfgs (plainDats m) 0 Gen.launch0 defs₀ Variants.none (fun _ => true) {main_v20} m ρ main
    (hbody := plain_body m)
    (hshare := fun c => (plainDats m 0 c).share_full fun _ => rfl) (howed := fun _ _ => rfl)
    (V₀ := Gen.V0 m) (opss := [Gen.hostOps1]) (hsub := Gen.sfx_sub) (hfresh := Gen.sfx_fresh) (hkeep := Gen.sfx_keeps)
    (hT := by
      intro ops hops op hop b hb
      simp only [List.mem_cons, List.mem_nil_iff, _root_.or_false] at hops
      subst hops
      simp only [Gen.hostOps1, List.mem_cons, List.mem_nil_iff, _root_.or_false] at hop
      subst hop
      simp only [StableHlo.reshape_writes, Finset.mem_singleton] at hb
      rw [Finset.mem_singleton]
      exact Proc.devRef_injective _ hb)
    (hmain := Gen.hmain m Variants.none) (hA := fun _ _ => rfl) (hΦ := fun _ _ => rfl)
    (Q' := _) (hQ' := fun r h => ⟨fun c => by
      have key := fun b hb hb' hT => ((h.1 c).2 b (Finset.mem_sdiff.mpr ⟨Pipeline.mem_restRefs_of b hb hb', hT⟩))
      exact ⟨(key main_arg0 (by decide) (by decide) (by decide)).trans (Gen.V_main_arg0 m c),
        (key main_arg1 (by decide) (by decide) (by decide)).trans (Gen.V_main_arg1 m c),
        (key main_arg2 (by decide) (by decide) (by decide)).trans (Gen.V_main_arg2 m c),
        (key main_arg3 (by decide) (by decide) (by decide)).trans (Gen.V_main_arg3 m c)⟩, h.2⟩)

end Cert.KernelIdeal

end
-- ==== Proof.FrameReference.lean ====
/- The reference runs, leaves its arguments, and ends with no counter raised. -/
module

public import proofs.«01_k».proof.Proof.Gen.ReferenceIdeal.Run
public import Idealize.ShloMosaic.Lib.Quiescent

@[expose] public section

noncomputable section

namespace Cert.ReferenceIdeal

open Cert.ReferenceIdeal.Gen Idealize.ShloMosaic Idealize.ShloMosaic.TcCoe Idealize.SL.Sem

variable {F : FTy → Type} [FloatOps F]

/-- Every run of the reference ends, with its four argument arrays as they were and every counter at zero: the
    program has host operations only and declares no semaphore at all. -/
theorem run_frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => (h c).2, sem_eq_zero_of_no_sems (by decide) r.2⟩)
    (Value.run m ρ)

end Cert.ReferenceIdeal

end
-- ==== Proof.Bytes.lean ====
/- Packed fp6 weights, byte by byte. Three bytes hold four six-bit codes. The kernel works on 32-bit words of four
   bytes at a time; here is what each of its word operations does to one byte of the word, and the number the byte it
   makes of a code stands for. -/
module

public import Idealize.ShloMosaic.PureOps.Ideal.Laws
public import Idealize.ShloMosaic.Lib.PackedFields
public import Mathlib.Tactic.IntervalCases
public import Mathlib.Tactic.NormNum

@[expose] public section

noncomputable section

namespace Cert.Fp6

open Idealize.ShloMosaic Idealize.ShloMosaic.PackedFields

/-- Code `i` of a triple of bytes, in the low six bits of a byte. -/
def code (b0 b1 b2 : BitVec 8) : Fin 4 → BitVec 8
  | 0 => b0 &&& 0x3F#8
  | 1 => ((b1 <<< 2) &&& 0x3C#8) ||| ((b0 >>> 6) &&& 0x03#8)
  | 2 => ((b1 >>> 4) &&& 0x0F#8) ||| ((b2 <<< 4) &&& 0x30#8)
  | 3 => (b2 >>> 2) &&& 0x3F#8

/-- The code's sign bit moved to the top of the byte. -/
def signUp (c : BitVec 8) : BitVec 8 := (c + 0x60#8) &&& 0x9F#8

/-- What the moved byte stands for as a float of five exponent and two significand bits. -/
def small (c : BitVec 8) : EReal := Ideal.ofBits .fp8e5m2 (signUp c)

/-- Byte `k` of a word. -/
def byte (k : Nat) (w : BitVec 32) : BitVec 8 := w.extractLsb' (8 * k) 8

/-- A bit of byte `k` is a bit of the word, `8k` up. -/
theorem getLsbD_byte (k : Nat) (w : BitVec 32) (q : Nat) (hq : q < 8) : (byte k w).getLsbD q = w.getLsbD (8 * k + q) := by
  simp [byte, hq]

/-- A code takes six bits. -/
theorem code_lt (b0 b1 b2 : BitVec 8) (i : Fin 4) : code b0 b1 b2 i &&& 0x3F#8 = code b0 b1 b2 i := by
  fin_cases i <;> simp only [code] <;> ext q hq <;> interval_cases q <;> simp

/-- Each word of codes holds, in each byte, the code of the bytes there: the four codes. -/
theorem byte_code0 (k : Nat) (hk : k < 4) (w0 w1 w2 : BitVec 32) :
    byte k (w0 &&& 1061109567#32) = code (byte k w0) (byte k w1) (byte k w2) 0 := by
  ext q hq
  interval_cases k <;> interval_cases q <;> simp [code, byte]

/-- A byte of the second code word is the second code of the bytes there. -/
theorem byte_code1 (k : Nat) (hk : k < 4) (w0 w1 w2 : BitVec 32) :
    byte k (((w1 <<< 2) &&& 1010580540#32) ||| ((w0 >>> 6) &&& 50529027#32)) = code (byte k w0) (byte k w1) (byte k w2) 1 := by
  ext q hq
  interval_cases k <;> interval_cases q <;> simp [code, byte]

/-- A byte of the third code word is the third code of the bytes there. -/
theorem byte_code2 (k : Nat) (hk : k < 4) (w0 w1 w2 : BitVec 32) :
    byte k (((w1 >>> 4) &&& 252645135#32) ||| ((w2 <<< 4) &&& 808464432#32)) = code (byte k w0) (byte k w1) (byte k w2) 2 := by
  ext q hq
  interval_cases k <;> interval_cases q <;> simp [code, byte]

/-- A byte of the fourth code word is the fourth code of the bytes there. -/
theorem byte_code3 (k : Nat) (hk : k < 4) (w0 w1 w2 : BitVec 32) :
    byte k ((w2 >>> 2) &&& 1061109567#32) = code (byte k w0) (byte k w1) (byte k w2) 3 := by
  ext q hq
  interval_cases k <;> interval_cases q <;> simp [code, byte]

/-- Byte `k` of a word as a number. -/
theorem toNat_byte (k : Nat) (w : BitVec 32) : (byte k w).toNat = field 8 k w.toNat := by
  simp [byte, field]

/-- Moving the sign bits of a word of codes moves each byte's. -/
theorem byte_signUp (k : Nat) (hk : k < 4) (w : BitVec 32) (hw : ∀ k < 4, byte k w &&& 0x3F#8 = byte k w) :
    byte k ((w + 1616928864#32) &&& 2678038431#32) = signUp (byte k w) := by
  have hlt : ∀ k < 4, field 8 k w.toNat < 64 := fun k hk => by
    rw [← toNat_byte, ← hw k hk, BitVec.toNat_and]
    exact lt_of_le_of_lt Nat.and_le_right (by decide)
  have hc : ∀ k < 4, field 8 k (1616928864#32).toNat = 96 := by decide
  have hadd : byte k (w + 1616928864#32) = byte k w + 0x60#8 := by
    apply BitVec.eq_of_toNat_eq
    have h1 : (w + 1616928864#32).toNat = w.toNat + (1616928864#32).toNat := by
      rw [BitVec.toNat_add, Nat.mod_eq_of_lt]
      have h3 := hlt 3 (by decide)
      rw [field_eq_div] at h3
      have := w.isLt
      simp only [BitVec.toNat_ofNat]
      omega
    rw [toNat_byte, h1, field_add 8 k _ _ (fun j hj => ?_), hc k hk, BitVec.toNat_add, toNat_byte, Nat.mod_eq_of_lt]
    · rfl
    · have := hlt k hk
      simp only [BitVec.toNat_ofNat]
      omega
    · have := hlt j (by omega)
      rw [hc j (by omega)]
      omega
  have hand : byte k ((w + 1616928864#32) &&& 2678038431#32) = byte k (w + 1616928864#32) &&& byte k 2678038431#32 := by
    ext q hq
    simp [byte]
  have hm : byte k 2678038431#32 = 0x9F#8 := by interval_cases k <;> rfl
  rw [hand, hadd, hm, signUp]

end Cert.Fp6

end
-- ==== Proof.Weights.lean ====
/- The weights a tile makes of its packed bytes, element by element. -/
module

public import proofs.«01_k».proof.Proof.TripleIdeal
public import proofs.«01_k».proof.Proof.Bytes
public import Idealize.ShloMosaic.Lib.Pointwise
public import Idealize.ShloMosaic.Lib.BitcastFour

@[expose] public section

set_option maxRecDepth 16384

noncomputable section

namespace Cert.KernelIdeal

open Idealize.ShloMosaic Cert.Fp6
open Facts₀ Facts

variable [Facts]

/-- Byte `k` of a word of a loaded block is the byte of row `4a + k`. -/
theorem byte_words (v : Vec Ideal S1x32x512 .i8) (a : Fin 8) (l : Fin 512) (k : Nat) (hk : k < 4) :
    byte k (words v (ix2 a l)) = v (ix3 0 ⟨4 * a.val + k, by omega⟩ l) := by
  apply BitVec.eq_of_getLsbD_eq
  intro q hq
  rw [getLsbD_byte k _ q hq]
  unfold words
  rw [ix2_eq_valueIdx]
  rw [bitcast_8_32_getLsbD_ix2 (R := 32) (r := 8) (n := 512) _ bitcasts_S32x512_w8_S8x512_w32 a l (8 * k + q) (by omega)
    ⟨4 * a.val + k, by omega⟩ (by simp only; omega)]
  rw [← ix2_eq_valueIdx, show (8 * k + q) % 8 = q by omega]
  congr 1
  pointwise

/-- Words read as bytes: row `4a + k` is byte `k` of the word at row `a`. -/
theorem bytes_words (w : IVec S8x512 32) (a : Fin 8) (l : Fin 512) (k : Nat) (hk : k < 4) :
    bitcast S32x512 8 w bitcasts_S8x512_w32_S32x512_w8 (ix2 ⟨4 * a.val + k, by omega⟩ l) = byte k (w (ix2 a l)) := by
  apply BitVec.eq_of_getLsbD_eq
  intro q hq
  have hrow : S32x512.row (ix2 (⟨4 * a.val + k, by omega⟩ : Fin 32) l) = 4 * a.val + k := rfl
  rw [getLsbD_byte k _ q hq, bitcast_getLsbD _ _ _ q hq (by decide)]
  congr 1
  · congr 1
    funext c
    match c with
    | ⟨0, _⟩ =>
      refine Fin.ext (((bitcasts_S8x512_w32_S32x512_w8).srcIdx_row _ _ _ ⟨0, Nat.zero_lt_two⟩ rfl).trans ?_)
      rw [hrow]; show _ = a.val; omega
    | ⟨1, _⟩ =>
      exact Fin.ext ((bitcasts_S8x512_w32_S32x512_w8).srcIdx_other _ _ _ ⟨1, Nat.one_lt_two⟩ (by show ¬ 1 + 2 = 2; omega))
  · rw [hrow]; omega

/-- The four words of codes of a byte triple. -/
def codeW (a0 a1 a2 : IVec S8x512 32) : Fin 4 → IVec S8x512 32
  | 0 => code0 a0
  | 1 => code1 a0 a1
  | 2 => code2 a1 a2
  | 3 => code3 a2

/-- Each byte of them is the code of the bytes there. -/
theorem byte_codeW (a0 a1 a2 : IVec S8x512 32) (i : Fin 4) (a : Fin 8) (l : Fin 512) (k : Nat) (hk : k < 4) :
    byte k (codeW a0 a1 a2 i (ix2 a l)) = code (byte k (a0 (ix2 a l))) (byte k (a1 (ix2 a l))) (byte k (a2 (ix2 a l))) i := by
  fin_cases i
  · exact byte_code0 k hk _ _ _
  · exact byte_code1 k hk _ _ _
  · exact byte_code2 k hk _ _ _
  · exact byte_code3 k hk _ _ _

/-- A weight made of loaded bytes is the number of the code of the bytes in its row. -/
theorem weight_codeW (v0 v1 v2 : Vec Ideal S1x32x512 .i8) (i : Fin 4) (j : Fin 32) (l : Fin 512) :
    weight (F := Ideal) (codeW (words v0) (words v1) (words v2) i) (ix2 j l)
      = small (code (v0 (ix3 0 j l)) (v1 (ix3 0 j l)) (v2 (ix3 0 j l)) i) := by
  obtain ⟨a, k, hk, rfl⟩ : ∃ (a : Fin 8) (k : Nat) (hk : k < 4), j = ⟨4 * a.val + k, by omega⟩ :=
    ⟨⟨j.val / 4, by omega⟩, j.val % 4, by omega, Fin.ext (by simp only; omega)⟩
  have hb := byte_codeW (words v0) (words v1) (words v2) i a l
  have hc : ∀ k < 4, byte k (codeW (words v0) (words v1) (words v2) i (ix2 a l)) &&& 0x3F#8
      = byte k (codeW (words v0) (words v1) (words v2) i (ix2 a l)) := fun k hk => by rw [hb k hk, code_lt]
  rw [← byte_words v0 a l k hk, ← byte_words v1 a l k hk, ← byte_words v2 a l k hk, ← hb k hk]
  unfold small
  rw [← byte_signUp k hk _ hc]
  refine congrArg (Ideal.ofBits .fp8e5m2) ?_
  exact bytes_words _ a l k hk

/-- Eight blocks of 32 rows one under another: row `32q + j` is row `j` of block `q`. -/
theorem eight_rows (w : Fin 8 → FVec Ideal S32x512 .bf16) (q : Fin 8) (j : Fin 32) (l : Fin 512) :
    concatenate S256x512 0 [⟨S32x512, w 0⟩, ⟨S32x512, w 1⟩, ⟨S32x512, w 2⟩, ⟨S32x512, w 3⟩, ⟨S32x512, w 4⟩,
        ⟨S32x512, w 5⟩, ⟨S32x512, w 6⟩, ⟨S32x512, w 7⟩]
      concatenates_S32x512_S32x512_S32x512_S32x512_S32x512_S32x512_S32x512_S32x512_S256x512_d0
      (ix2 ⟨q.val * 32 + j.val, by omega⟩ l) = w q (ix2 j l) := by
  pointwise
  split_ifs <;>
    refine congrArg₂ (fun (q : Fin 8) (r : Fin 32) => w q (ix2 r l)) (Fin.ext ?_) (Fin.ext ?_) <;> simp <;> omega

/-- Four blocks of 32 rows one under another: row `32q + j` is row `j` of block `q`. -/
theorem four_rows (w : Fin 4 → FVec Ideal S32x512 .bf16) (q : Fin 4) (j : Fin 32) (l : Fin 512) :
    concatenate S128x512 0 [⟨S32x512, w 0⟩, ⟨S32x512, w 1⟩, ⟨S32x512, w 2⟩, ⟨S32x512, w 3⟩]
      concatenates_S32x512_S32x512_S32x512_S32x512_S128x512_d0 (ix2 ⟨q.val * 32 + j.val, by omega⟩ l) = w q (ix2 j l) := by
  pointwise
  split_ifs <;>
    refine congrArg₂ (fun (q : Fin 4) (r : Fin 32) => w q (ix2 r l)) (Fin.ext ?_) (Fin.ext ?_) <;> simp <;> omega

/-- Row `128h + 32i + j` of a tile's weights is row `j` of code `i` of its group `h`. -/
theorem tileW_apply (a : Fin 2 → Fin 3 → IVec S8x512 32) (h : Fin 2) (i : Fin 4) (j : Fin 32) (l : Fin 512)
    (r : Fin 256) (hr : r.val = h.val * 128 + (i.val * 32 + j.val)) :
    tileW (F := Ideal) (a 0 0) (a 0 1) (a 0 2) (a 1 0) (a 1 1) (a 1 2) (ix2 r l)
      = weight (F := Ideal) (codeW (a h 0) (a h 1) (a h 2) i) (ix2 j l) := by
  have hq := eight_rows (fun q => weight (F := Ideal) (codeW (a ⟨q.val / 4, by omega⟩ 0) (a ⟨q.val / 4, by omega⟩ 1)
    (a ⟨q.val / 4, by omega⟩ 2) ⟨q.val % 4, by omega⟩)) ⟨h.val * 4 + i.val, by omega⟩ j l
  have e : (⟨(h.val * 4 + i.val) * 32 + j.val, by omega⟩ : Fin 256) = r := Fin.ext (by simp only; omega)
  have e1 : (⟨(h.val * 4 + i.val) / 4, by omega⟩ : Fin 2) = h := Fin.ext (by simp only; omega)
  have e2 : (⟨(h.val * 4 + i.val) % 4, by omega⟩ : Fin 4) = i := Fin.ext (by simp only; omega)
  simp only [e, e1, e2] at hq
  exact hq

/-- Row `32i + j` of the last group's weights is row `j` of code `i`. -/
theorem lastW_apply (a : Fin 3 → IVec S8x512 32) (i : Fin 4) (j : Fin 32) (l : Fin 512)
    (r : Fin 128) (hr : r.val = i.val * 32 + j.val) :
    lastW (F := Ideal) (a 0) (a 1) (a 2) (ix2 r l) = weight (F := Ideal) (codeW (a 0) (a 1) (a 2) i) (ix2 j l) := by
  have e : (⟨i.val * 32 + j.val, by omega⟩ : Fin 128) = r := Fin.ext hr.symm
  rw [← e]
  exact four_rows (fun q => weight (F := Ideal) (codeW (a 0) (a 1) (a 2) q)) i j l

end Cert.KernelIdeal

end
-- ==== Proof.Spec.lean ====
/- What the product is: an element of the result from one row of activations and one column of packed weights. -/
module

public import proofs.«01_k».proof.Proof.Bytes

@[expose] public section

noncomputable section

namespace Cert.Fp6

open Idealize.ShloMosaic

/-- A group of 128 activations against the 128 codes of its 32 byte triples. -/
def groupDot (x : Fin 4 → Fin 32 → EReal) (b : Fin 3 → Fin 32 → BitVec 8) : EReal :=
  ∑ i : Fin 4, ∑ j : Fin 32, x i j * small (code (b 0 j) (b 1 j) (b 2 j) i)

/-- The 101 groups, each by its scale. -/
def groupsSum (x : Fin 101 → Fin 4 → Fin 32 → EReal) (b : Fin 101 → Fin 3 → Fin 32 → BitVec 8)
    (s : Fin 101 → EReal) : EReal :=
  ∑ g : Fin 101, groupDot (x g) (b g) * s g

/-- An element of the result: the groups' sum, times 4096, times the column's scale. -/
def colOut (x : Fin 101 → Fin 4 → Fin 32 → EReal) (b : Fin 101 → Fin 3 → Fin 32 → BitVec 8)
    (s : Fin 101 → EReal) (ws : EReal) : EReal :=
  groupsSum x b s * ((4096 : ℝ) : EReal) * ws

end Cert.Fp6

end
-- ==== Proof.Column.lean ====
/- What the body leaves in its output block, element by element, when the activation blocks hold their two groups
   on the diagonal. -/
module

public import proofs.«01_k».proof.Proof.Weights
public import proofs.«01_k».proof.Proof.Spec
public import Mathlib.Algebra.BigOperators.Intervals

@[expose] public section

set_option maxRecDepth 16384

noncomputable section

namespace Cert.KernelIdeal

open Idealize.ShloMosaic Cert.Fp6
open Facts₀ Facts

variable [Facts]

/-- Activation blocks that hold group `2t` in their upper left quarter, group `2t + 1` in their lower right one,
    and zero elsewhere. -/
structure Diag (X1 : S51x16x256.Idx → EReal) (x : Fin 8 → Fin 101 → Fin 4 → Fin 32 → EReal) : Prop where
  on : ∀ (t : Fin 51) (h : Fin 2) (tok : Fin 8) (i : Fin 4) (j : Fin 32) (hg : 2 * t.val + h.val < 101),
    X1 (ix3 t ⟨h.val * 8 + tok.val, by omega⟩ ⟨h.val * 128 + (i.val * 32 + j.val), by omega⟩)
      = x tok ⟨2 * t.val + h.val, hg⟩ i j
  off : ∀ (t : Fin 51) (h h' : Fin 2) (tok : Fin 8) (i : Fin 4) (j : Fin 32), h ≠ h' →
    X1 (ix3 t ⟨h.val * 8 + tok.val, by omega⟩ ⟨h'.val * 128 + (i.val * 32 + j.val), by omega⟩) = 0

/-- The packed bytes of column `l` of a block, by group, plane and row. -/
def bytesAt (X2 : S3x3232x512.Idx → BitVec 8) (l : Fin 512) : Fin 101 → Fin 3 → Fin 32 → BitVec 8 :=
  fun g p j => X2 (ix3 p ⟨g.val * 32 + j.val, by omega⟩ l)

/-- A loaded block of bytes at an index. -/
theorem atW_apply (X2 : S3x3232x512.Idx → BitVec 8) (p g : Nat) (hp : p < 3) (hg : g < 101) (j : Fin 32) (l : Fin 512) :
    atW (F := Ideal) X2 p g hp hg (ix3 0 j l) = bytesAt X2 l ⟨g, hg⟩ ⟨p, hp⟩ j := by
  unfold atW bytesAt
  refine congrArg X2 (funext fun a => Fin.ext ?_)
  fin_cases a <;> simp [Rect.toLoadRect, LoadRect.idx, Rect.unit, ix3]

/-- A loaded tile of activations at an index. -/
theorem atX_apply (X1 : S51x16x256.Idx → EReal) (t : Nat) (ht : t < 51) (r : Fin 16) (k : Fin 256) :
    atX (F := Ideal) X1 t ht (ix3 0 r k) = X1 (ix3 ⟨t, ht⟩ r k) := by
  unfold atX
  refine congrArg X1 (funext fun a => Fin.ext ?_)
  fin_cases a <;> simp [Rect.toLoadRect, LoadRect.idx, Rect.unit, ix3]

/-- A loaded row of group scales at an index. -/
theorem atG_apply (X4 : S101x512.Idx → EReal) (g : Nat) (hg : g < 101) (l : Fin 512) :
    atG (F := Ideal) X4 g hg (ix2 0 l) = X4 (ix2 ⟨g, hg⟩ l) := by
  unfold atG
  refine congrArg X4 (funext fun a => Fin.ext ?_)
  fin_cases a <;> simp [Rect.toLoadRect, LoadRect.idx, Rect.unit, ix2]

/-- A tile's product at a row of group `h`. -/
theorem tileDot_apply (w : FVec Ideal S256x512 .bf16) (x : Vec Ideal S1x16x256 .bf16) (r : Fin 16) (l : Fin 512) :
    tileDot (F := Ideal) w x (ix2 r l) = ∑ k : Fin 256, x (ix3 0 r k) * w (ix2 k l) := by
  unfold tileDot
  pointwise

/-- The last tile's product at an index. -/
theorem lastDot_apply (w : FVec Ideal S128x512 .bf16) (x : Vec Ideal S1x16x256 .bf16) (r : Fin 16) (l : Fin 512) :
    lastDot (F := Ideal) w x (ix2 r l) = ∑ k : Fin 128, x (ix3 0 r ⟨k.val, by omega⟩) * w (ix2 k l) := by
  unfold lastDot
  pointwise

/-- Adding the top half of a tile's product, scaled, at an index. -/
theorem addTop_apply (acc : FVec Ideal S8x512 .f32) (p : FVec Ideal S16x512 .f32) (g : Vec Ideal S1x512 .f32)
    (tok : Fin 8) (l : Fin 512) :
    addTop (F := Ideal) acc p g (ix2 tok l) = acc (ix2 tok l) + p (ix2 ⟨tok.val, by omega⟩ l) * g (ix2 0 l) := by
  unfold addTop rowOf
  pointwise

/-- Adding the bottom half of a tile's product, scaled, at an index. -/
theorem addBot_apply (acc : FVec Ideal S8x512 .f32) (p : FVec Ideal S16x512 .f32) (g : Vec Ideal S1x512 .f32)
    (tok : Fin 8) (l : Fin 512) :
    addBot (F := Ideal) acc p g (ix2 tok l) = acc (ix2 tok l) + p (ix2 ⟨8 + tok.val, by omega⟩ l) * g (ix2 0 l) := by
  unfold addBot rowOf
  pointwise

/-- The constant the kernel multiplies by is 4096. -/
theorem ofBits_4096 : Ideal.ofBits .f32 0x45800000#32 = ((4096 : ℝ) : EReal) := by
  unfold Ideal.ofBits Ideal.ieee
  simp only [show (0x45800000#32).extractLsb' 23 8 = 139#8 from rfl, show (0x45800000#32).extractLsb' 0 23 = 0#23 from rfl,
    show ((0x45800000#32).extractLsb' (8 + 23) 1 == 1#1) = false from rfl]
  norm_num

/-- The last step, the two scalings, at an index. -/
theorem finish_apply (acc : FVec Ideal S8x512 .f32) (ws : Vec Ideal S1x512 .f32) (tok : Fin 8) (l : Fin 512) :
    finish (F := Ideal) acc ws (ix2 tok l) = acc (ix2 tok l) * ((4096 : ℝ) : EReal) * ws (ix2 0 l) := by
  unfold finish rowOf
  pointwise
  rw [ofBits_4096]

/-! ## The products are the groups' -/

section

variable (X1 : S51x16x256.Idx → EReal) (x : Fin 8 → Fin 101 → Fin 4 → Fin 32 → EReal) (hx : Diag X1 x)
  (X2 : S3x3232x512.Idx → BitVec 8) (X4 : S101x512.Idx → EReal)

/-- The weights of groups `2t` and `2t + 1`. -/
def pairW (t : Nat) (ht : t < 50) : FVec Ideal S256x512 .bf16 :=
  tileW (words (atW (F := Ideal) X2 0 (2 * t) (by omega) (by omega))) (words (atW (F := Ideal) X2 1 (2 * t) (by omega) (by omega)))
    (words (atW (F := Ideal) X2 2 (2 * t) (by omega) (by omega))) (words (atW (F := Ideal) X2 0 (2 * t + 1) (by omega) (by omega)))
    (words (atW (F := Ideal) X2 1 (2 * t + 1) (by omega) (by omega))) (words (atW (F := Ideal) X2 2 (2 * t + 1) (by omega) (by omega)))

/-- A tile's weight is the number of its code. -/
theorem pairW_apply (t : Nat) (ht : t < 50) (h : Fin 2) (i : Fin 4) (j : Fin 32) (l : Fin 512)
    (r : Fin 256) (hr : r.val = h.val * 128 + (i.val * 32 + j.val)) :
    pairW X2 t ht (ix2 r l) = small (code (bytesAt X2 l ⟨2 * t + h.val, by omega⟩ 0 j)
      (bytesAt X2 l ⟨2 * t + h.val, by omega⟩ 1 j) (bytesAt X2 l ⟨2 * t + h.val, by omega⟩ 2 j) i) := by
  have e := tileW_apply (fun (h : Fin 2) (p : Fin 3) =>
    words (atW (F := Ideal) X2 p.val (2 * t + h.val) p.isLt (by omega))) h i j l r hr
  refine e.trans ?_
  rw [weight_codeW, atW_apply, atW_apply, atW_apply]

include hx in
/-- Rows `8h` to `8h + 7` of a tile's product are group `2t + h`'s. -/
theorem pairDot (t : Nat) (ht : t < 50) (h : Fin 2) (tok : Fin 8) (l : Fin 512) (r : Fin 16)
    (hr : r.val = h.val * 8 + tok.val) :
    tileDot (F := Ideal) (pairW X2 t ht) (atX (F := Ideal) X1 t (by omega)) (ix2 r l)
      = groupDot (x tok ⟨2 * t + h.val, by omega⟩) (bytesAt X2 l ⟨2 * t + h.val, by omega⟩) := by
  have er : (⟨h.val * 8 + tok.val, by omega⟩ : Fin 16) = r := Fin.ext hr.symm
  rw [← er]
  rw [tileDot_apply, Fin.sum_univ_tiles 2 128 rfl]
  have inner (h' : Fin 2) : (∑ s : Fin 128, atX (F := Ideal) X1 t (by omega) (ix3 0 ⟨h.val * 8 + tok.val, by omega⟩ ⟨h'.val * 128 + s.val, by omega⟩)
      * pairW X2 t ht (ix2 ⟨h'.val * 128 + s.val, by omega⟩ l))
      = if h' = h then groupDot (x tok ⟨2 * t + h.val, by omega⟩) (bytesAt X2 l ⟨2 * t + h.val, by omega⟩) else 0 := by
    rw [Fin.sum_univ_tiles 4 32 rfl]
    by_cases hh : h' = h
    · subst hh
      rw [if_pos rfl]
      unfold groupDot
      refine Finset.sum_congr rfl fun i _ => Finset.sum_congr rfl fun j _ => ?_
      rw [pairW_apply X2 t ht h' i j l _ rfl, atX_apply]
      exact congrArg (· * _) (hx.on ⟨t, by omega⟩ h' tok i j (by simp only; omega))
    · rw [if_neg hh]
      refine Finset.sum_eq_zero fun i _ => Finset.sum_eq_zero fun j _ => ?_
      rw [atX_apply]
      exact (congrArg (· * _) (hx.off ⟨t, by omega⟩ h h' tok i j (Ne.symm hh))).trans (zero_mul _)
  refine (Finset.sum_congr rfl fun h' _ => inner h').trans ?_
  rw [Finset.sum_ite_eq' Finset.univ h, if_pos (Finset.mem_univ _)]

include hx in
/-- The upper rows of the last product are group 100's. -/
theorem lastDot_group (tok : Fin 8) (l : Fin 512) :
    lastDot (F := Ideal) (lastW (words (atW (F := Ideal) X2 0 100 (by omega) (by omega)))
        (words (atW (F := Ideal) X2 1 100 (by omega) (by omega))) (words (atW (F := Ideal) X2 2 100 (by omega) (by omega))))
      (atX (F := Ideal) X1 50 (by omega)) (ix2 ⟨tok.val, by omega⟩ l)
      = groupDot (x tok ⟨100, by omega⟩) (bytesAt X2 l ⟨100, by omega⟩) := by
  rw [lastDot_apply, Fin.sum_univ_tiles 4 32 rfl]
  unfold groupDot
  refine Finset.sum_congr rfl fun i _ => Finset.sum_congr rfl fun j _ => ?_
  have e := lastW_apply (fun p : Fin 3 => words (atW (F := Ideal) X2 p.val 100 p.isLt (by omega))) i j l ⟨i.val * 32 + j.val, by omega⟩ rfl
  rw [atX_apply]
  refine congrArg₂ (· * ·) ?_ (e.trans ?_)
  · have e1 := hx.on ⟨50, by omega⟩ 0 tok i j (by decide)
    refine Eq.trans (congrArg X1 ?_) e1
    refine funext fun a => Fin.ext ?_
    fin_cases a <;> simp [ix3]
  · rw [weight_codeW, atW_apply, atW_apply, atW_apply]

/-! ## The running sum -/

/-- What group `g` adds to the running sum. -/
def term (tok : Fin 8) (l : Fin 512) (g : ℕ) : EReal :=
  if hg : g < 101 then groupDot (x tok ⟨g, hg⟩) (bytesAt X2 l ⟨g, hg⟩) * X4 (ix2 ⟨g, hg⟩ l) else 0

include hx in
/-- What one full tile adds: its two groups. -/
theorem tileOut_apply (t : Nat) (ht : t < 50) (acc : FVec Ideal S8x512 .f32) (tok : Fin 8) (l : Fin 512) :
    tileOut (F := Ideal) X1 X2 X4 t ht acc (ix2 tok l)
      = acc (ix2 tok l) + (term x X2 X4 tok l (2 * t) + term x X2 X4 tok l (2 * t + 1)) := by
  unfold tileOut step
  rw [addBot_apply, addTop_apply, atG_apply, atG_apply]
  have e0 := pairDot X1 x hx X2 t ht 0 tok l ⟨tok.val, by omega⟩ (by simp)
  have e1 := pairDot X1 x hx X2 t ht 1 tok l ⟨8 + tok.val, by omega⟩ (by simp)
  unfold pairW at e0 e1
  rw [e0, e1]
  unfold term
  rw [dif_pos (by omega), dif_pos (by omega), add_assoc]
  rfl

include hx in
/-- What several full tiles in a row add. -/
theorem tilesOut_apply (tok : Fin 8) (l : Fin 512) : ∀ (n t : Nat) (h : n + t ≤ 50) (acc : FVec Ideal S8x512 .f32),
    tilesOut (F := Ideal) X1 X2 X4 n t h acc (ix2 tok l)
      = acc (ix2 tok l) + ∑ g ∈ Finset.Ico (2 * t) (2 * (t + n)), term x X2 X4 tok l g
  | 0, t, _, acc => by simp [tilesOut]
  | n + 1, t, h, acc => by
    rw [tilesOut, tilesOut_apply tok l n (t + 1) (by omega), tileOut_apply X1 x hx, add_assoc]
    rw [Finset.sum_eq_sum_Ico_succ_bot (show 2 * t < 2 * (t + (n + 1)) by omega),
      Finset.sum_eq_sum_Ico_succ_bot (show 2 * t + 1 < 2 * (t + (n + 1)) by omega), add_assoc,
      show 2 * t + 1 + 1 = 2 * (t + 1) by ring, show t + 1 + n = t + (n + 1) by ring]

include hx in
/-- What all tiles together add: the sum over the groups. -/
theorem sumOut_apply (tok : Fin 8) (l : Fin 512) :
    sumOut (F := Ideal) X1 X2 X4 (ix2 tok l) = groupsSum (x tok) (bytesAt X2 l) (fun g => X4 (ix2 g l)) := by
  unfold sumOut lastStep
  rw [addTop_apply, atG_apply, lastDot_group X1 x hx, tilesOut_apply X1 x hx]
  have h0 : (broadcast S8x512 (Scalar.ofBits (F := Ideal) .f32 0x00000000#32) : FVec Ideal S8x512 .f32) (ix2 tok l) = 0 := by
    pointwise
  rw [h0, zero_add]
  have h100 : groupDot (x tok ⟨100, by omega⟩) (bytesAt X2 l ⟨100, by omega⟩) * X4 (ix2 ⟨100, by omega⟩ l)
      = term x X2 X4 tok l 100 := by unfold term; rw [dif_pos (by omega)]
  rw [h100, show 2 * 0 = 0 from rfl, show 2 * (0 + 50) = 100 from rfl, ← Finset.range_eq_Ico, ← Finset.sum_range_succ,
    Finset.sum_range]
  unfold groupsSum
  refine Finset.sum_congr rfl fun g _ => ?_
  unfold term
  rw [dif_pos g.isLt]

include hx in
/-- What the body stores at row `tok`, lane `l`: the element of the result that row `tok` of the activations and
    lane `l` of the three other blocks give. -/
theorem bodyOut_apply (X3 : S1x512.Idx → EReal) (tok : Fin 8) (l : Fin 512) :
    bodyOut (F := Ideal) X1 X2 X3 X4 (ix2 tok l)
      = colOut (x tok) (bytesAt X2 l) (fun g => X4 (ix2 g l)) (X3 (ix2 0 l)) := by
  unfold bodyOut colOut
  rw [finish_apply, sumOut_apply X1 x hx]

end

end Cert.KernelIdeal

end
-- ==== Proof.Blocks.lean ====
/- What the body computes at a grid point, in the columns inside the arrays: columns `512t + l` of the result. -/
module

public import proofs.«01_k».proof.Proof.Column
public import proofs.«01_k».proof.Proof.Gen.KernelIdeal.Points
public import Idealize.ShloMosaic.Lib.Pipeline.ValueKit

@[expose] public section

set_option maxRecDepth 16384

noncomputable section

namespace Cert.KernelIdeal

open Idealize.ShloMosaic Idealize.ShloMosaic.TcCoe Cert.Fp6
open Idealize.SL Idealize.SL.Sem
open Idealize.ShloMosaic.Pipeline (Dat Cfg Window BodyObligation BodyObligationLoose cellOf)

variable (m : (ℓ : Loc nD τ sig) → Buf (Elt Ideal) ℓ)

/-! ## The blocks' positions -/

/-- How many columns of a block lie inside the arrays: all 512, but 256 of the last. -/
def cols (t : Fin cfg0.N) : Nat := if t.val = 53 then 256 else 512

/-- A point's columns lie inside the array. -/
theorem cols_le (t : Fin cfg0.N) : t.val * 512 + cols t ≤ 27392 := by
  have : t.val < 54 := t.isLt
  unfold cols; split_ifs <;> omega

/-- Point `t` fetches the bytes' block `t` along the columns. -/
theorem index_1 : ∀ t : Fin cfg0.N, win0_1.index t = ![0, 0, t.val] := (by decide +kernel : ∀ t : Fin grid0.N, win0_1.index t = ![0, 0, t.val])
/-- Point `t` fetches the column scales' block `t`. -/
theorem index_2 : ∀ t : Fin cfg0.N, win0_2.index t = ![0, t.val] := (by decide +kernel : ∀ t : Fin grid0.N, win0_2.index t = ![0, t.val])
/-- Point `t` fetches the group scales' block `t`. -/
theorem index_3 : ∀ t : Fin cfg0.N, win0_3.index t = ![0, t.val] := (by decide +kernel : ∀ t : Fin grid0.N, win0_3.index t = ![0, t.val])
/-- Point `t` writes the result's block `t`. -/
theorem index_4 : ∀ t : Fin cfg0.N, win0_4.index t = ![0, t.val] := (by decide +kernel : ∀ t : Fin grid0.N, win0_4.index t = ![0, t.val])

/-- The part of the bytes' block inside the array. -/
theorem xsize_1 : ∀ t : Fin cfg0.N, win0_1.xsize (grid0.coords t) = ![3, 3232, cols t] :=
  (by decide +kernel : ∀ t : Fin grid0.N, win0_1.xsize (grid0.coords t) = ![3, 3232, cols t])
/-- The part of the column scales' block inside the array. -/
theorem xsize_2 : ∀ t : Fin cfg0.N, win0_2.xsize (grid0.coords t) = ![1, cols t] :=
  (by decide +kernel : ∀ t : Fin grid0.N, win0_2.xsize (grid0.coords t) = ![1, cols t])
/-- The part of the group scales' block inside the array. -/
theorem xsize_3 : ∀ t : Fin cfg0.N, win0_3.xsize (grid0.coords t) = ![101, cols t] :=
  (by decide +kernel : ∀ t : Fin grid0.N, win0_3.xsize (grid0.coords t) = ![101, cols t])
/-- The part of the result's block inside the array. -/
theorem xsize_4 : ∀ t : Fin cfg0.N, win0_4.xsize (grid0.coords t) = ![8, cols t] :=
  (by decide +kernel : ∀ t : Fin grid0.N, win0_4.xsize (grid0.coords t) = ![8, cols t])

/-- Column `l` of block `t`, as a column of the arrays. -/
def col (t : Fin cfg0.N) (l : Nat) (hl : l < cols t) : Fin 27392 := ⟨t.val * 512 + l, by have := cols_le t; omega⟩

/-! ## What the fetched blocks hold in the columns inside the arrays -/

/-- The bytes as fetched, at a column inside the array. -/
theorem fetched_1 (c : Dev nD) (t : Fin cfg0.N) (d : S3x3232x512.Idx → BitVec 8) (p : Fin 3) (r : Fin 3232) (l : Fin 512)
    (hl : l.val < cols t) :
    win0_1.fill (grid0.coords t) d (Gen.iblk m c 1 t) (ix3 p r l) = Gen.V m c main_v16 (ix3 p r (col t l.val hl)) := by
  unfold Window.fill
  rw [dif_pos ((win0_1.moved_iff _ _).mpr fun a => by
    rw [xsize_1]
    fin_cases a
    · exact p.isLt
    · exact r.isLt
    · exact hl)]
  blk_simp [Gen.iblk]
  refine congrArg (Gen.V m c main_v16) ?_
  blk_ext [index_1, col, ix3]

/-- The column scales as fetched, at a column inside the array. -/
theorem fetched_2 (c : Dev nD) (t : Fin cfg0.N) (d : S1x512.Idx → EReal) (p : Fin 1) (l : Fin 512) (hl : l.val < cols t) :
    win0_2.fill (grid0.coords t) d (Gen.iblk m c 2 t) (ix2 p l) = Gen.V m c main_v18 (ix2 p (col t l.val hl)) := by
  unfold Window.fill
  rw [dif_pos ((win0_2.moved_iff _ _).mpr fun a => by
    rw [xsize_2]
    fin_cases a
    · exact p.isLt
    · exact hl)]
  blk_simp [Gen.iblk]
  refine congrArg (Gen.V m c main_v18) ?_
  blk_ext [index_2, col, ix2]

/-- The group scales as fetched, at a column inside the array. -/
theorem fetched_3 (c : Dev nD) (t : Fin cfg0.N) (d : S101x512.Idx → EReal) (p : Fin 101) (l : Fin 512) (hl : l.val < cols t) :
    win0_3.fill (grid0.coords t) d (Gen.iblk m c 3 t) (ix2 p l) = Gen.V m c main_v17 (ix2 p (col t l.val hl)) := by
  unfold Window.fill
  rw [dif_pos ((win0_3.moved_iff _ _).mpr fun a => by
    rw [xsize_3]
    fin_cases a
    · exact p.isLt
    · exact hl)]
  blk_simp [Gen.iblk]
  refine congrArg (Gen.V m c main_v17) ?_
  blk_ext [index_3, col, ix2]

/-- The activations' block is their whole array. -/
theorem fetched_0 (c : Dev nD) (t : Fin cfg0.N) : Gen.iblk m c 0 t = Gen.V m c main_v15 := by
  funext y
  blk_simp [Gen.iblk]
  refine congrArg (Gen.V m c main_v15) ?_
  have e : ∀ t : Fin cfg0.N, win0_0.index t = ![0, 0, 0] := (by decide +kernel : ∀ t : Fin grid0.N, win0_0.index t = ![0, 0, 0])
  blk_ext [e]

/-! ## The result -/

variable (x : Dev nD → Fin 8 → Fin 101 → Fin 4 → Fin 32 → EReal)

/-- The result array: row `i 0` of the activations and column `i 1` of the weights. -/
def result (c : Dev nD) : S8x27392.Idx → EReal := fun i =>
  colOut (x c (i 0)) (fun g p j => Gen.V m c main_v16 (ix3 p ⟨g.val * 32 + j.val, by omega⟩ (i 1)))
    (fun g => Gen.V m c main_v17 (ix2 g (i 1))) (Gen.V m c main_v18 (ix2 0 (i 1)))

/-- What the body leaves at point `t`, whatever lies past the arrays' end in the fetched blocks: the result's columns. -/
theorem body_cut (c : Dev nD) (hx : Diag (Gen.V m c main_v15) (x c)) (t : Fin cfg0.N) (d1 : S3x3232x512.Idx → BitVec 8)
    (d2 : S1x512.Idx → EReal) (d3 : S101x512.Idx → EReal) :
    win0_4.cut (grid0.coords t) (bodyOut (F := Ideal) (Gen.iblk m c 0 t) (win0_1.fill (grid0.coords t) d1 (Gen.iblk m c 1 t))
        (win0_2.fill (grid0.coords t) d2 (Gen.iblk m c 2 t)) (win0_3.fill (grid0.coords t) d3 (Gen.iblk m c 3 t)))
      = fun y => result m x c ((win0_4.blk t).view.emb y) := by
  funext y
  have h0 : (y 0 : Nat) < 8 := lt_of_lt_of_eq (y 0).isLt (congrFun (xsize_4 t) 0)
  have h1 : (y 1 : Nat) < cols t := lt_of_lt_of_eq (y 1).isLt (congrFun (xsize_4 t) 1)
  have h2 : (y 1 : Nat) < 512 := lt_of_lt_of_le h1 (by unfold cols; split_ifs <;> omega)
  have hj : win0_4.xinj (grid0.coords t) y = ix2 (⟨y 0, h0⟩ : Fin 8) (⟨y 1, h2⟩ : Fin 512) := by
    funext a; fin_cases a <;> rfl
  have he : (win0_4.blk t).view.emb y = ix2 (⟨y 0, h0⟩ : Fin 8) (col t (y 1) h1) := by
    blk_ext [index_4, col, ix2]
  show bodyOut (F := Ideal) _ _ _ _ (win0_4.xinj (grid0.coords t) y) = _
  rw [hj, he, bodyOut_apply _ (x c) (by rw [fetched_0]; exact hx)]
  unfold result bytesAt
  simp only [fetched_1 m c t d1 _ _ ⟨y 1, h2⟩ h1, fetched_2 m c t d2 _ ⟨y 1, h2⟩ h1, fetched_3 m c t d3 _ ⟨y 1, h2⟩ h1]
  rfl

end Cert.KernelIdeal

end
-- ==== Proof.RunIdeal.lean ====
/- The run over the extended reals: the result array ends at `result`. -/
module

public import proofs.«01_k».proof.Proof.Blocks

@[expose] public section

set_option maxRecDepth 16384

noncomputable section

namespace Cert.KernelIdeal

open Idealize.ShloMosaic Idealize.ShloMosaic.TcCoe Idealize.ShloMosaic.Tactic Cert.Fp6
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

section

variable {F : FTy → Type} [FloatOps F] (m : (ℓ : Loc nD τ sig) → Buf (Elt F) ℓ) (R : Dev nD → S8x27392.Idx → Elt F .bf16)

/-- The packed bytes' block, its columns inside the array as fetched. -/
def left1 (c : Dev nD) (t : Fin cfg0.N) : S3x3232x512.Idx → Elt F .i8 :=
  win0_1.fill (grid0.coords t) (fun _ => 0#8) (Gen.iblk m c 1 t)
/-- The column scales' block. -/
def left2 (c : Dev nD) (t : Fin cfg0.N) : S1x512.Idx → Elt F .f32 :=
  win0_2.fill (grid0.coords t) (fun _ => Scalar.ofBits .f32 0#32) (Gen.iblk m c 2 t)
/-- The group scales' block. -/
def left3 (c : Dev nD) (t : Fin cfg0.N) : S101x512.Idx → Elt F .f32 :=
  win0_3.fill (grid0.coords t) (fun _ => Scalar.ofBits .f32 0#32) (Gen.iblk m c 3 t)
/-- The result's block, its columns inside the array the result's. -/
def left4 (c : Dev nD) (t : Fin cfg0.N) : S8x512.Idx → Elt F .bf16 :=
  win0_4.fill (grid0.coords t) (fun _ => Scalar.ofBits .bf16 0#16) fun y => R c ((win0_4.blk t).view.emb y)

/-- The arrays as the region finds them; after the body each staging buffer holds its block in the columns inside the
    arrays, the last the result's. -/
def dats (_ : Fin 1) (c : Dev nD) : Dat τ (Elt F) Unit ℕ (UR sig nD τ) ℕ cfg0 c where
  A w := Gen.V m c (Pipeline.arrRef spec0 w)
  after w t := match w with
    | ⟨0, _⟩ => Gen.iblk m c 0 t
    | ⟨1, _⟩ => left1 m c t
    | ⟨2, _⟩ => left2 m c t
    | ⟨3, _⟩ => left3 m c t
    | ⟨4, _⟩ => left4 R c t
  Φ _ := Pipeline.ΦA spec0 c
  q _ := fullShare
  owed _ := 0

/-- Before a point's body the activations' block is as fetched. -/
theorem before_0 (c : Dev nD) (t : Fin cfg0.N) (d) : (dats m R 0 c).before (0 : Fin 5) t d = Gen.iblk m c 0 t :=
  Gen.before0_0_of m (dats m R 0 c) rfl (fun _ => rfl) t d
/-- Before a point's body the bytes' block is as fetched. -/
theorem before_1 (c : Dev nD) (t : Fin cfg0.N) (d) :
    (dats m R 0 c).before (1 : Fin 5) t d = win0_1.fill (grid0.coords t) d (Gen.iblk m c 1 t) := by
  unfold Dat.before; rw [if_pos (Gen.fetch0_1 t)]; rfl
/-- Before a point's body the column scales' block is as fetched. -/
theorem before_2 (c : Dev nD) (t : Fin cfg0.N) (d) :
    (dats m R 0 c).before (2 : Fin 5) t d = win0_2.fill (grid0.coords t) d (Gen.iblk m c 2 t) := by
  unfold Dat.before; rw [if_pos (Gen.fetch0_2 t)]; rfl
/-- Before a point's body the group scales' block is as fetched. -/
theorem before_3 (c : Dev nD) (t : Fin cfg0.N) (d) :
    (dats m R 0 c).before (3 : Fin 5) t d = win0_3.fill (grid0.coords t) d (Gen.iblk m c 3 t) := by
  unfold Dat.before; rw [if_pos (Gen.fetch0_3 t)]; rfl
/-- After the body the bytes' block is `left1`. -/
theorem after_1 (c : Dev nD) (t : Fin cfg0.N) : (dats m R 0 c).after (1 : Fin 5) t = left1 m c t := by dsimp only [dats]
/-- Inside the array that is what was fetched. -/
theorem cut_after_1 (c : Dev nD) (t : Fin cfg0.N) :
    (win0 1).cut (grid0.coords t) ((dats m R 0 c).after 1 t) = Gen.iblk m c 1 t := by
  rw [after_1]; unfold left1; exact win0_1.cut_fill _ _ _
/-- After the body the column scales' block is `left2`. -/
theorem after_2 (c : Dev nD) (t : Fin cfg0.N) : (dats m R 0 c).after (2 : Fin 5) t = left2 m c t := by dsimp only [dats]
/-- Inside the array that is what was fetched. -/
theorem cut_after_2 (c : Dev nD) (t : Fin cfg0.N) :
    (win0 2).cut (grid0.coords t) ((dats m R 0 c).after 2 t) = Gen.iblk m c 2 t := by
  rw [after_2]; unfold left2; exact win0_2.cut_fill _ _ _
/-- After the body the group scales' block is `left3`. -/
theorem after_3 (c : Dev nD) (t : Fin cfg0.N) : (dats m R 0 c).after (3 : Fin 5) t = left3 m c t := by dsimp only [dats]
/-- Inside the array that is what was fetched. -/
theorem cut_after_3 (c : Dev nD) (t : Fin cfg0.N) :
    (win0 3).cut (grid0.coords t) ((dats m R 0 c).after 3 t) = Gen.iblk m c 3 t := by
  rw [after_3]; unfold left3; exact win0_3.cut_fill _ _ _
/-- After the body the result's block is `left4`. -/
theorem after_4 (c : Dev nD) (t : Fin cfg0.N) : (dats m R 0 c).after (4 : Fin 5) t = left4 R c t := by dsimp only [dats]
/-- Inside the array that is the result there. -/
theorem cut_after_4 (c : Dev nD) (t : Fin cfg0.N) :
    (win0 4).cut (grid0.coords t) ((dats m R 0 c).after 4 t) = fun y => R c ((win0_4.blk t).view.emb y) := by
  rw [after_4]; unfold left4; exact win0_4.cut_fill _ _ _
/-- Before a point's body the result's block is anything. -/
theorem before_4 (c : Dev nD) (t : Fin cfg0.N) (d) : (dats m R 0 c).before (4 : Fin 5) t d = d :=
  (dats m R 0 c).before_out_reset 4 rfl t (by
    by_cases h : t.val = 0
    · exact .inl h
    · exact .inr ⟨h, Gen.flush0_4 _⟩) d

variable (hcut : ∀ (c : Dev nD) (t : Fin cfg0.N) (d1 : S3x3232x512.Idx → Elt F .i8) (d2 : S1x512.Idx → Elt F .f32)
    (d3 : S101x512.Idx → Elt F .f32),
  win0_4.cut (grid0.coords t) (bodyOut (F := F) (Gen.iblk m c 0 t) (win0_1.fill (grid0.coords t) d1 (Gen.iblk m c 1 t))
      (win0_2.fill (grid0.coords t) d2 (Gen.iblk m c 2 t)) (win0_3.fill (grid0.coords t) d3 (Gen.iblk m c 3 t)))
    = fun y => R c ((win0_4.blk t).view.emb y))

include hcut in
/-- The body takes the fetched blocks to the result's block. -/
theorem value_body (c : Dev nD) :
    BodyObligationLoose (dats m R 0 c) (defs₀ (F := F)) Variants.none () Set.univ := fun t => by
  rw [Gen.bigSep_W0, Gen.bigSep_W0]
  simp only
  rw [show (dats m R 0 c).Φ t.succ = (dats m R 0 c).Φ t.castSucc from rfl,
    show (dats m R 0 c).owesAt () t.succ = (dats m R 0 c).owesAt () t.castSucc from rfl]
  iintro ⟨HΦ, Ho, ⟨%d0, H1⟩, ⟨%d1, H2⟩, ⟨%d2, H3⟩, ⟨%d3, H4⟩, ⟨%d4, H5⟩⟩
  rw [before_0 m R c t d0, before_1 m R c t d1, before_2 m R c t d2, before_3 m R c t d3, before_4 m R c t d4]
  iapply (sound_body (F := F) (c := c) (E := Set.univ) (X1 := Gen.iblk m c 0 t)
    (X2 := win0_1.fill (grid0.coords t) d1 (Gen.iblk m c 1 t)) (X3 := win0_2.fill (grid0.coords t) d2 (Gen.iblk m c 2 t))
    (X4 := win0_3.fill (grid0.coords t) d3 (Gen.iblk m c 3 t)) (grid0.coords t) _ _ _ _ _ d4 _)
  unfold five
  isplitl [H1 H2 H3 H4 H5]
  · iframe
  iintro ⟨H1, H2, H3, H4, H5⟩
  have hc := hcut c t d1 d2 d3
  have e1 := cut_after_1 m R c t
  have e2 := cut_after_2 m R c t
  have e3 := cut_after_3 m R c t
  have e4 := cut_after_4 m R c t
  isplitl [HΦ]; · iexact HΦ
  isplitl [Ho]; · iexact Ho
  isplitl [H1]; · iexact H1
  isplitl [H2]
  · iexists d1
    rw [e1]; iexact H2
  isplitl [H3]
  · iexists d2
    rw [e2]; iexact H3
  isplitl [H4]
  · iexists d3
    rw [e3]; iexact H4
  · iexists (bodyOut (F := F) (Gen.iblk m c 0 t) (win0_1.fill (grid0.coords t) d1 (Gen.iblk m c 1 t))
        (win0_2.fill (grid0.coords t) d2 (Gen.iblk m c 2 t)) (win0_3.fill (grid0.coords t) d3 (Gen.iblk m c 3 t)))
    rw [e4, ← hc, win0_4.fill_cut]; iexact H5

end

variable (m : (ℓ : Loc nD τ sig) → Buf (Elt Ideal) ℓ) (ρ : Dev nD → PrngReg)
  (x : Dev nD → Fin 8 → Fin 101 → Fin 4 → Fin 32 → EReal) (hx : ∀ c, Diag (Gen.V m c main_v15) (x c))

/-- The result array's contents after the run. -/
theorem final (c : Dev nD) : (dats m (result m x) 0 c).arrAt (4 : Fin 5) cfg0.N = result m x c := by
  refine (dats m (result m x) 0 c).arrAt_eq_of_covers (4 : Fin 5) _ (by decide +kernel) fun t hf y => ?_
  blk_simp
  rw [after_4]
  exact win0_4.fill_xinj (grid0.coords t) _ _ y

/-- The reshape after the region reads the result array. -/
theorem reshaped (c : Dev nD) : Pipeline.afterTail₀ cfgs (dats m (result m x)) 0 (Gen.V0 m) [Gen.hostOps1] c main_v20
    = shapeCast S8x1x27392 (result m x c) Facts₀.shapeCasts_S8x27392_S8x1x27392 := by
  have e := (Pipeline.withArrays_arr spec0 Gen.launch0.win.arr_inj c (Gen.V0 m c)
    (fun w => (dats m (result m x) 0 c).arrAt w cfg0.N) (4 : Fin 5)).trans (final m x c)
  unfold Pipeline.afterTail₀
  rw [List.flatten_singleton, StableHlo.after_cons, StableHlo.after_nil]
  after_results
  exact congrArg (fun z => shapeCast S8x1x27392 z Facts₀.shapeCasts_S8x27392_S8x1x27392) e

set_option backward.isDefEq.respectTransparency.types false in
include hx in
/-- The program runs; the array `%20` ends at the result, its arguments as they were. -/
theorem run_value : θ_run defs (onTc (τ := τ) (main (F := Ideal))) ⟨m, fun _ => 0, ρ⟩ (fun r => ∀ c : Dev nD,
      r.2.mem ((c.tc : Thread nD τ).loc main_v20)
        = shapeCast S8x1x27392 (result m x c) Facts₀.shapeCasts_S8x27392_S8x1x27392
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_frame_around cfgs (dats m (result m x)) 0 Gen.launch0 defs₀ Variants.none m ρ main
    (hbody := value_body m (result m x) fun c => body_cut m x c (hx c))
    (hshare := fun c => (dats m (result m x) 0 c).share_full fun _ => rfl) (howed := fun _ _ => rfl)
    (V₀ := Gen.V0 m) (opss := [Gen.hostOps1]) (hsub := Gen.sfx_sub) (hfresh := Gen.sfx_fresh) (hkeep := Gen.sfx_keeps)
    (hmain := Gen.hmain m Variants.none) (hA := fun _ _ => rfl) (hΦ := fun _ _ => rfl)
    (Q' := _) (hQ' := fun r h c => by
      have key := fun b hb => ((h.1 c).2 b hb)
      refine ⟨(key main_v20 (by decide)).trans ?_,
        (key main_arg0 (by decide)).trans (Gen.W_main_arg0 m (dats m (result m x)) c),
        (key main_arg1 (by decide)).trans (Gen.W_main_arg1 m (dats m (result m x)) c),
        (key main_arg2 (by decide)).trans (Gen.W_main_arg2 m (dats m (result m x)) c),
        (key main_arg3 (by decide)).trans (Gen.W_main_arg3 m (dats m (result m x)) c)⟩
      exact reshaped m x c)

end Cert.KernelIdeal

end
-- ==== Proof.Prep.lean ====
/- The arrays the pipeline reads, in terms of the program's arguments. -/
module

public import proofs.«01_k».proof.Proof.Column
public import Idealize.ShloMosaic.Lib.Pointwise

@[expose] public section

set_option maxRecDepth 16384

noncomputable section

namespace Cert.KernelIdeal

open Idealize.ShloMosaic Idealize.ShloMosaic.TcCoe Idealize.ShloMosaic.Tactic Cert.Fp6
open Facts₀ Facts

/-- The activations by group, a group's four phases one after the other. -/
def rows (a : FVec Ideal S8x1x12928 .bf16) : FVec Ideal S101x8x128 .bf16 :=
  shapeCast S101x8x128 (transpose S101x8x4x32 [1, 0, 3, 2] (shapeCast S8x101x32x4 a shapeCasts_S8x1x12928_S8x101x32x4)
    transposes_S8x101x32x4_S101x8x4x32_1_0_3_2) shapeCasts_S101x8x4x32_S101x8x128

/-- A zero group after the 101, and the groups in pairs. -/
def pairs (a : FVec Ideal S8x1x12928 .bf16) : FVec Ideal S51x2x8x1x128 .bf16 :=
  shapeCast S51x2x8x1x128 (pad S102x8x128 ![0, 0, 0] ![1, 0, 0] ![0, 0, 0] (rows a)
    (sitofp .bf16 (constantI S_ 32 0#32)) pads_S101x8x128_S102x8x128_010_000_000 h_S_) shapeCasts_S102x8x128_S51x2x8x1x128

/-- The two by two unit matrix. -/
def unit2 : FVec Ideal S2x2 .bf16 :=
  uitofp .bf16 (cmpi .eq (addi (iotaInDim S2x2 32 0) (broadcastInDim S2x2 ![] bcast_S_S2x2 (constantI S_ 32 0#32))) (iotaInDim S2x2 32 1))

/-- Each pair of groups as a block diagonal matrix. -/
def blocks (a : FVec Ideal S8x1x12928 .bf16) : FVec Ideal S51x16x256 .bf16 :=
  shapeCast S51x16x256 (mulf
    (broadcastInDim S51x2x8x2x128 ![0, 1, 2, 3, 4] bcast_S51x2x8x1x128_S51x2x8x2x128_0_1_2_3_4 (pairs a))
    (broadcastInDim S51x2x8x2x128 ![0, 1, 2, 3, 4] bcast_S1x2x1x2x1_S51x2x8x2x128_0_1_2_3_4
      (broadcastInDim S1x2x1x2x1 ![1, 3] bcast_S2x2_S1x2x1x2x1_1_3 unit2))) shapeCasts_S51x2x8x2x128_S51x16x256

/-- A group's activations at an index. -/
theorem rows_apply (a : FVec Ideal S8x1x12928 .bf16) (g : Fin 101) (tok : Fin 8) (i : Fin 4) (j : Fin 32) :
    rows a (ix3 g tok ⟨i.val * 32 + j.val, by omega⟩) = a (ix3 tok 0 ⟨g.val * 128 + (j.val * 4 + i.val), by omega⟩) := by
  pointwise [rows]
  exact congrArg (fun k => a (ix3 tok 0 k)) (Fin.ext (by simp only; omega))

/-- The true bit is one. -/
theorem uitofp_one : FloatOps.uitofp (F := Ideal) .bf16 1#1 = (1 : EReal) := by
  show (((1#1).toNat : ℝ) : EReal) = 1
  simp
/-- The false bit is zero. -/
theorem uitofp_zero : FloatOps.uitofp (F := Ideal) .bf16 0#1 = (0 : EReal) := by
  show (((0#1).toNat : ℝ) : EReal) = 0
  simp
/-- The zero word is zero. -/
theorem sitofp_zero : FloatOps.sitofp (F := Ideal) .bf16 0#32 = (0 : EReal) := by
  show (((0#32).toInt : ℝ) : EReal) = 0
  simp

/-- The unit matrix at an index. -/
theorem unit2_apply (h h' : Fin 2) : unit2 (ix2 h h') = if h = h' then 1 else 0 := by
  pointwise [unit2]
  fin_cases h <;> fin_cases h' <;> simp [IntOp.cmpi, IntOp.addi, uitofp_one, uitofp_zero]

/-- The groups in pairs at an index: the group, or zero past the last. -/
theorem pairs_apply (a : FVec Ideal S8x1x12928 .bf16) (t : Fin 51) (h : Fin 2) (tok : Fin 8) (l : Fin 128) :
    pairs a (ix5 t h tok 0 l) = if hg : 2 * t.val + h.val < 101 then rows a (ix3 ⟨2 * t.val + h.val, hg⟩ tok l) else 0 := by
  have e : t.val * 2 + h.val = 2 * t.val + h.val := by omega
  pointwise [pairs]
  simp only [e]
  split
  · rfl
  · exact sitofp_zero

/-- The block diagonal matrices at an index. -/
theorem blocks_apply (a : FVec Ideal S8x1x12928 .bf16) (t : Fin 51) (h h' : Fin 2) (tok : Fin 8) (l : Fin 128) :
    blocks a (ix3 t ⟨h.val * 8 + tok.val, by omega⟩ ⟨h'.val * 128 + l.val, by omega⟩) = pairs a (ix5 t h tok 0 l) * unit2 (ix2 h h') := by
  pointwise [blocks]

/-- The blocks hold each group on the diagonal and zero off it. -/
theorem blocks_diag (a : FVec Ideal S8x1x12928 .bf16) :
    Diag (blocks a) (fun tok g i j => a (ix3 tok 0 ⟨g.val * 128 + (j.val * 4 + i.val), by omega⟩)) where
  on t h tok i j hg := by
    rw [blocks_apply a t h h tok ⟨i.val * 32 + j.val, by omega⟩, pairs_apply, unit2_apply, if_pos rfl, dif_pos hg, rows_apply]
    exact mul_one _
  off t h h' tok i j hne := by
    rw [blocks_apply a t h h' tok ⟨i.val * 32 + j.val, by omega⟩, unit2_apply, if_neg hne]
    exact mul_zero _

variable (m : (ℓ : Loc nD τ sig) → Buf (Elt Ideal) ℓ)

/-- The bytes' array is the argument, transposed. -/
theorem bytes_eq (c : Dev nD) : Gen.V m c main_v16
    = transpose S3x3232x27392 [2, 1, 0] (m ((c.tc : Thread nD τ).loc main_arg1)) transposes_S27392x3232x3_S3x3232x27392_2_1_0 := by
  simp only [Gen.V, Gen.V0, List.flatten_cons, List.flatten_nil, List.append_nil, List.cons_append, List.nil_append]
  after_results <;> rfl

/-- The group scales' array is the argument, transposed. -/
theorem scales_eq (c : Dev nD) : Gen.V m c main_v17
    = transpose S101x27392 [1, 0] (m ((c.tc : Thread nD τ).loc main_arg3)) transposes_S27392x101_S101x27392_1_0 := by
  simp only [Gen.V, Gen.V0, List.flatten_cons, List.flatten_nil, List.append_nil, List.cons_append, List.nil_append]
  after_results <;> rfl

/-- The column scales' array is the argument, as a row. -/
theorem colScale_eq (c : Dev nD) : Gen.V m c main_v18
    = shapeCast S1x27392 (m ((c.tc : Thread nD τ).loc main_arg2)) shapeCasts_S27392_S1x27392 := by
  simp only [Gen.V, Gen.V0, List.flatten_cons, List.flatten_nil, List.append_nil, List.cons_append, List.nil_append]
  after_results <;> rfl

/-- The activations' array holds the block diagonal matrices. -/
theorem blocks_eq (c : Dev nD) : Gen.V m c main_v15 = blocks (m ((c.tc : Thread nD τ).loc main_arg0)) := by
  simp only [Gen.V, Gen.V0, List.flatten_cons, List.flatten_nil, List.append_nil, List.cons_append, List.nil_append]
  after_results <;> rfl

end Cert.KernelIdeal

end
-- ==== Proof.Decode.lean ====
/- The number a six-bit code stands for: what the reference makes of it is 4096 times what the kernel makes of it. -/
module

public import proofs.«01_k».proof.Proof.Bytes

@[expose] public section

noncomputable section

namespace Cert.Fp6

open Idealize.ShloMosaic

/-- The reference's code `i`: the three bytes joined to one word, shifted by six bits a code. -/
def wideCode (b0 b1 b2 : BitVec 8) (i : Fin 4) : BitVec 32 :=
  ((b0.setWidth 32 ||| b1.setWidth 32 <<< 8 ||| b2.setWidth 32 <<< 16).sshiftRight (6 * i.val)) &&& 63#32

/-- What the reference makes of a code: the sign, times a sixteenth of the significand below the smallest
    exponent and the float of that exponent and significand elsewhere. -/
def wideVal (c : BitVec 32) : EReal :=
  (((1#32 - 2#32 * c.sshiftRight 5).toInt : ℝ) : EReal)
    * (if (c &&& 31#32).sshiftRight 2 = 0#32 then (((c &&& 3#32).toInt : ℝ) : EReal) * Ideal.ofBits .f32 0x3D800000#32
      else Ideal.ofBits .f32 (((c &&& 31#32) <<< 21) + 1040187392#32))

/-- The reference's codes are the kernel's. -/
theorem wideCode_eq (b0 b1 b2 : BitVec 8) (i : Fin 4) : wideCode b0 b1 b2 i = (code b0 b1 b2 i).setWidth 32 := by
  ext q hq
  fin_cases i <;> interval_cases q <;> simp [wideCode, code, BitVec.getElem_sshiftRight]

/-- The sign, exponent and significand of the kernel's byte, read off the code. -/
theorem small_fields : ∀ n < 64, ((signUp (BitVec.ofNat 8 n)).extractLsb' 7 1 == 1#1) = decide (n / 32 = 1)
    ∧ ((signUp (BitVec.ofNat 8 n)).extractLsb' 2 5).toNat = n / 4 % 8
    ∧ ((signUp (BitVec.ofNat 8 n)).extractLsb' 0 2).toNat = n % 4 := by decide +kernel

/-- The kernel's number for a code. -/
theorem small_eq (n : Nat) (hn : n < 64) : small (BitVec.ofNat 8 n) =
    (((if n / 32 = 1 then -1 else 1) * (if n / 4 % 8 = 0 then (n % 4 : ℕ) * (2 : ℝ) ^ (-16 : ℤ)
      else (4 + n % 4 : ℕ) * (2 : ℝ) ^ ((n / 4 % 8 : ℕ) - 17 : ℤ)) : ℝ) : EReal) := by
  obtain ⟨h1, h2, h3⟩ := small_fields n hn
  have h31 : ¬ n / 4 % 8 = 2 ^ 5 - 1 := by omega
  unfold small Ideal.ofBits Ideal.ieee
  simp only [show 5 + 2 = 7 from rfl, h1, h2, h3, if_neg h31, decide_eq_true_eq]
  by_cases he : n / 4 % 8 = 0
  · simp only [if_pos he]; norm_num [mul_assoc]
  · simp only [if_neg he]
    rw [show ((n / 4 % 8 : ℕ) : ℤ) - (2 ^ (5 - 1) - 1) - ((2 : ℕ) : ℤ) = (n / 4 % 8 : ℕ) - 17 by norm_num; ring]
    norm_num [mul_assoc]
    split_ifs <;> ring

/-- The parts of the reference's decoding, read off the code. -/
theorem wide_fields : ∀ n < 64, (1#32 - 2#32 * (BitVec.ofNat 32 n).sshiftRight 5).toInt = (if n / 32 = 1 then -1 else 1)
    ∧ ((BitVec.ofNat 32 n &&& 31#32).sshiftRight 2 = 0#32 ↔ n / 4 % 8 = 0)
    ∧ (BitVec.ofNat 32 n &&& 3#32).toInt = (n % 4 : ℕ)
    ∧ (((((BitVec.ofNat 32 n &&& 31#32) <<< 21) + 1040187392#32).extractLsb' 31 1 == 1#1) = false)
    ∧ ((((BitVec.ofNat 32 n &&& 31#32) <<< 21) + 1040187392#32).extractLsb' 23 8).toNat = 124 + n / 4 % 8
    ∧ ((((BitVec.ofNat 32 n &&& 31#32) <<< 21) + 1040187392#32).extractLsb' 0 23).toNat = n % 4 * 2097152 := by
  decide +kernel

/-- The reference's number for a code. -/
theorem wideVal_fields (n : Nat) (hn : n < 64) : wideVal (BitVec.ofNat 32 n) =
    (((if n / 32 = 1 then -1 else 1) * (if n / 4 % 8 = 0 then (n % 4 : ℕ) * (2 : ℝ) ^ (-4 : ℤ)
      else (4 + n % 4 : ℕ) * (2 : ℝ) ^ ((n / 4 % 8 : ℕ) - 5 : ℤ)) : ℝ) : EReal) := by
  obtain ⟨h1, h2, h3, h4, h5, h6⟩ := wide_fields n hn
  have hs : Ideal.ofBits .f32 0x3D800000#32 = (((2 : ℝ) ^ (-4 : ℤ) : ℝ) : EReal) := by
    unfold Ideal.ofBits Ideal.ieee
    simp only [show (0x3D800000#32).extractLsb' 23 8 = 123#8 from rfl, show (0x3D800000#32).extractLsb' 0 23 = 0#23 from rfl,
      show ((0x3D800000#32).extractLsb' (8 + 23) 1 == 1#1) = false from rfl]
    norm_num
  have h0 : ¬ 124 + n / 4 % 8 = 2 ^ 8 - 1 := by omega
  have h0' : ¬ 124 + n / 4 % 8 = 0 := by omega
  have hw : Ideal.ofBits .f32 (((BitVec.ofNat 32 n &&& 31#32) <<< 21) + 1040187392#32)
      = (((4 + n % 4 : ℕ) * (2 : ℝ) ^ ((n / 4 % 8 : ℕ) - 5 : ℤ) : ℝ) : EReal) := by
    unfold Ideal.ofBits Ideal.ieee
    simp only [show 8 + 23 = 31 from rfl, h4, h5, h6, if_neg h0, if_neg h0']
    rw [show ((124 + n / 4 % 8 : ℕ) : ℤ) - (2 ^ (8 - 1) - 1) - ((23 : ℕ) : ℤ) = ((n / 4 % 8 : ℕ) - 5 : ℤ) + (-21 : ℤ) by push_cast; norm_num; ring,
      zpow_add₀ (by norm_num)]
    refine congrArg (fun r : ℝ => (r : EReal)) ?_
    push_cast
    norm_num
    ring
  have hsgn : ((if n / 32 = 1 then -1 else 1 : ℤ) : ℝ) = if n / 32 = 1 then -1 else 1 := by split_ifs <;> norm_num
  unfold wideVal
  rw [h1, hs, hw, h3]
  by_cases he : n / 4 % 8 = 0
  · rw [if_pos (h2.mpr he), if_pos he, ← EReal.coe_mul, ← EReal.coe_mul, hsgn, Int.cast_natCast]
  · rw [if_neg (fun h => he (h2.mp h)), if_neg he, ← EReal.coe_mul, hsgn]

/-- A code's two values: the reference's is 4096 times the kernel's. -/
theorem wideVal_eq (n : Nat) (hn : n < 64) :
    wideVal (BitVec.ofNat 32 n) = ((4096 : ℝ) : EReal) * small (BitVec.ofNat 8 n) := by
  rw [wideVal_fields n hn, small_eq n hn, ← EReal.coe_mul]
  refine congrArg (fun r : ℝ => (r : EReal)) ?_
  have h1 : (2 : ℝ) ^ (-4 : ℤ) = 4096 * (2 : ℝ) ^ (-16 : ℤ) := by norm_num
  have h2 : (2 : ℝ) ^ ((n / 4 % 8 : ℕ) - 5 : ℤ) = 4096 * (2 : ℝ) ^ ((n / 4 % 8 : ℕ) - 17 : ℤ) := by
    rw [show ((n / 4 % 8 : ℕ) - 5 : ℤ) = 12 + ((n / 4 % 8 : ℕ) - 17 : ℤ) by ring, zpow_add₀ (by norm_num)]
    norm_num
  rw [h1, h2]
  split_ifs <;> ring

/-- The same for the codes of three bytes. -/
theorem wideVal_code (b0 b1 b2 : BitVec 8) (i : Fin 4) :
    wideVal (wideCode b0 b1 b2 i) = ((4096 : ℝ) : EReal) * small (code b0 b1 b2 i) := by
  have h := code_lt b0 b1 b2 i
  generalize hc : code b0 b1 b2 i = c at h
  have hn : c.toNat < 64 := by
    rw [← h, BitVec.toNat_and]
    exact lt_of_le_of_lt Nat.and_le_right (by decide)
  rw [wideCode_eq, hc, show c.setWidth 32 = BitVec.ofNat 32 c.toNat from by
    apply BitVec.eq_of_toNat_eq; simp, wideVal_eq _ hn, BitVec.ofNat_toNat, BitVec.setWidth_eq]

/-- The kernel's number for a code is a real number. -/
theorem small_real (b0 b1 b2 : BitVec 8) (i : Fin 4) : ∃ r : ℝ, small (code b0 b1 b2 i) = (r : EReal) := by
  have h := code_lt b0 b1 b2 i
  generalize code b0 b1 b2 i = c at h
  have hn : c.toNat < 64 := by
    rw [← h, BitVec.toNat_and]
    exact lt_of_le_of_lt Nat.and_le_right (by decide)
  have := small_eq c.toNat hn
  rw [BitVec.ofNat_toNat, BitVec.setWidth_eq] at this
  exact ⟨_, this⟩

end Cert.Fp6

end
-- ==== Proof.RefValue.lean ====
/- What the reference computes, element by element. -/
module

public import proofs.«01_k».proof.Proof.Gen.ReferenceIdeal.Run
public import proofs.«01_k».proof.Proof.Decode
public import proofs.«01_k».proof.Proof.Spec
public import Idealize.ShloMosaic.Lib.Pointwise

@[expose] public section

set_option maxRecDepth 16384

noncomputable section

namespace Cert.ReferenceIdeal

open Cert.ReferenceIdeal.Gen Idealize.ShloMosaic Idealize.ShloMosaic.TcCoe Cert.Fp6

/-- The bytes, widened, by group and place in the triple. -/
def wide (b : IVec S27392x3232x3 8) : IVec S27392x101x32x3 32 :=
  extui 32 (shapeCast _ b shapeCasts_S27392x3232x3_S27392x101x32x3) natLt_8_32

/-- A triple's three bytes joined to one word. -/
def joined (b : IVec S27392x3232x3 8) : IVec S27392x101x32 32 :=
  ori (ori (shapeCast _ (extractStridedSlice S27392x101x32x1 ![0, 0, 0, 0] (wide b) slices_S27392x101x32x3_S27392x101x32x1_0_0_0_0) shapeCasts_S27392x101x32x1_S27392x101x32)
    (Host.shli (shapeCast _ (extractStridedSlice S27392x101x32x1 ![0, 0, 0, 1] (wide b) slices_S27392x101x32x3_S27392x101x32x1_0_0_0_1) shapeCasts_S27392x101x32x1_S27392x101x32) (broadcastInDim S27392x101x32 ![] bcast_S_S27392x101x32 (constantI S_ 32 8#32))))
    (Host.shli (shapeCast _ (extractStridedSlice S27392x101x32x1 ![0, 0, 0, 2] (wide b) slices_S27392x101x32x3_S27392x101x32x1_0_0_0_2) shapeCasts_S27392x101x32x1_S27392x101x32) (broadcastInDim S27392x101x32 ![] bcast_S_S27392x101x32 (constantI S_ 32 16#32)))

/-- The same word everywhere. -/
def every (k : BitVec 32) : IVec S27392x101x4x32 32 :=
  broadcastInDim S27392x101x4x32 ![] bcast_S_S27392x101x4x32 (constantI S_ 32 k)

/-- The four codes of each triple. -/
def codes (b : IVec S27392x3232x3 8) : IVec S27392x101x4x32 32 :=
  andi (Host.shrsi (broadcastInDim S27392x101x4x32 ![0, 1, 2, 3] bcast_S27392x101x1x32_S27392x101x4x32_0_1_2_3 (broadcastInDim S27392x101x1x32 ![0, 1, 3] bcast_S27392x101x32_S27392x101x1x32_0_1_3 (joined b)))
    (broadcastInDim S27392x101x4x32 ![0, 1, 2, 3] bcast_S1x1x4x1_S27392x101x4x32_0_1_2_3 (broadcastInDim S1x1x4x1 ![2, 3] bcast_S4x1_S1x1x4x1_2_3 (broadcastInDim S4x1 ![0] bcast_S4_S4x1_0 (muli (broadcastInDim S4 ![] bcast_S_S4 (constantI S_ 32 6#32)) (iotaInDim S4 32 0))))))
    (every 63#32)

/-- The numbers the codes stand for. -/
def weights (k : IVec S27392x101x4x32 32) : FVec Ideal S27392x101x4x32 .bf16 :=
  truncf .bf16 (mulf (sitofp .f32 (subi (every 1#32) (muli (every 2#32) (Host.shrsi k (every 5#32)))))
    (select (cmpi .eq (Host.shrsi (andi k (every 31#32)) (every 2#32)) (every 0#32))
      (mulf (sitofp .f32 (andi k (every 3#32))) (broadcastInDim S27392x101x4x32 ![] bcast_S_S27392x101x4x32 (constant S_ .f32 0x3D800000#32)))
      (bitcastToFloat (F := Ideal) .f32 (addi (Host.shli (andi k (every 31#32)) (every 21#32)) (every 1040187392#32))))) bitsLt_bf16_f32

/-- The product from the weights. -/
def product (x : FVec Ideal S8x1x12928 .bf16) (w : FVec Ideal S27392x101x4x32 .bf16) (ws : FVec Ideal S27392 .f32)
    (s : FVec Ideal S27392x101 .f32) : FVec Ideal S8x1x27392 .bf16 :=
  truncf .bf16 (mulf (Host.reduceAdd (mulf (transpose S8x1x27392x101 [2, 3, 1, 0] (Host.dotGeneral dot_S27392x101x4x32_S8x1x101x4x32_S101x27392x8x1_23_34_0_01_1_2 none w
      (transpose S8x1x101x4x32 [0, 1, 2, 4, 3] (shapeCast _ x shapeCasts_S8x1x12928_S8x1x101x32x4) transposes_S8x1x101x32x4_S8x1x101x4x32_0_1_2_4_3)) transposes_S101x27392x8x1_S8x1x27392x101_2_3_1_0)
      (broadcastInDim S8x1x27392x101 ![0, 1, 2, 3] bcast_S1x1x27392x101_S8x1x27392x101_0_1_2_3 (broadcastInDim S1x1x27392x101 ![2, 3] bcast_S27392x101_S1x1x27392x101_2_3 s)))
      (constant S_ .f32 0x00000000#32) reducesTo_S8x1x27392x101_S8x1x27392_d3 h_S_)
    (broadcastInDim S8x1x27392 ![0, 1, 2] bcast_S1x1x27392_S8x1x27392_0_1_2 (broadcastInDim S1x1x27392 ![2] bcast_S27392_S1x1x27392_2 ws))) bitsLt_bf16_f32

/-- The reference's result in these stages. -/
theorem result_eq (m : (ℓ : Loc nD τ sig) → Buf (Elt Ideal) ℓ) (c : Dev nD) : Value.res_main_v62 m c
    = product (m ((c.tc : Thread nD τ).loc main_arg0)) (weights (codes (m ((c.tc : Thread nD τ).loc main_arg1))))
        (m ((c.tc : Thread nD τ).loc main_arg2)) (m ((c.tc : Thread nD τ).loc main_arg3)) := by
  simp only [Value.res_main_v62, product, weights, codes, every, joined, wide]

/-- The word of a triple, from its bytes. -/
theorem joined_apply (b : IVec S27392x3232x3 8) (n : Fin 27392) (g : Fin 101) (j : Fin 32) :
    joined b (ix3 n g j) = (b (ix3 n ⟨g.val * 32 + j.val, by omega⟩ 0)).setWidth 32
      ||| (b (ix3 n ⟨g.val * 32 + j.val, by omega⟩ 1)).setWidth 32 <<< 8 ||| (b (ix3 n ⟨g.val * 32 + j.val, by omega⟩ 2)).setWidth 32 <<< 16 := by
  pointwise [joined, wide]
  rfl

/-- A code is six bits of the word. -/
theorem codes_apply (b : IVec S27392x3232x3 8) (n : Fin 27392) (g : Fin 101) (i : Fin 4) (j : Fin 32) :
    codes b (ix4 n g i j) = (joined b (ix3 n g j)).sshiftRight (6 * i.val) &&& 63#32 := by
  pointwise [codes, every]
  fin_cases i <;> rfl

/-- A shift left by 21. -/
theorem shl_host (y : BitVec 32) : IntOp.shli ArithUnit.host y 21#32 = y <<< 21 := rfl
/-- A shift right by 2. -/
theorem shr2_host (y : BitVec 32) : IntOp.shrsi ArithUnit.host y 2#32 = y.sshiftRight 2 := rfl
/-- A shift right by 5. -/
theorem shr5_host (y : BitVec 32) : IntOp.shrsi ArithUnit.host y 5#32 = y.sshiftRight 5 := rfl
/-- A word as an extended real. -/
theorem sitofp_real (y : BitVec 32) : FloatOps.sitofp (F := Ideal) FTy.f32 y = ((y.toInt : ℝ) : EReal) := rfl
/-- A choice by an equation. -/
theorem select_eq {α : Type} (y z : BitVec 32) (a b : α) :
    Scalar.select (IntOp.cmpi CmpIPredicate.eq y z) a b = if y = z then a else b := by
  unfold Scalar.select IntOp.cmpi
  by_cases h : y = z
  · simp [h]
  · simp [h, beq_false_of_ne h]

/-- A weight is its code's number. -/
theorem weights_apply (k : IVec S27392x101x4x32 32) (n : Fin 27392) (g : Fin 101) (i : Fin 4) (j : Fin 32) :
    weights k (ix4 n g i j) = wideVal (k (ix4 n g i j)) := by
  pointwise [weights, every]
  generalize k (ix4 n g i j) = q
  simp only [select_eq, shl_host, shr2_host, shr5_host, sitofp_real, IntOp.andi, IntOp.addi, IntOp.subi, IntOp.muli, wideVal]

/-- An element of the product: the groups' dot products, each by its scale, summed, by the column's scale. -/
theorem product_apply (x : FVec Ideal S8x1x12928 .bf16) (w : FVec Ideal S27392x101x4x32 .bf16) (ws : FVec Ideal S27392 .f32)
    (s : FVec Ideal S27392x101 .f32) (tok : Fin 8) (n : Fin 27392) :
    product x w ws s (ix3 tok 0 n) = (∑ g : Fin 101, (∑ i : Fin 4, ∑ j : Fin 32,
      w (ix4 n g i j) * x (ix3 tok 0 ⟨g.val * 128 + (j.val * 4 + i.val), by omega⟩)) * s (ix2 n g)) * ws (ix1 n) := by
  pointwise [product]
  simp only [Nat.add_assoc]

/-- An element of the reference's result. -/
theorem result_apply (m : (ℓ : Loc nD τ sig) → Buf (Elt Ideal) ℓ) (c : Dev nD) (tok : Fin 8) (n : Fin 27392) :
    Value.res_main_v62 m c (ix3 tok 0 n) = (∑ g : Fin 101, (∑ i : Fin 4, ∑ j : Fin 32,
      wideVal (wideCode
        ((m ((c.tc : Thread nD τ).loc main_arg1) : S27392x3232x3.Idx → BitVec 8) (ix3 n ⟨g.val * 32 + j.val, by omega⟩ 0))
        ((m ((c.tc : Thread nD τ).loc main_arg1) : S27392x3232x3.Idx → BitVec 8) (ix3 n ⟨g.val * 32 + j.val, by omega⟩ 1))
        ((m ((c.tc : Thread nD τ).loc main_arg1) : S27392x3232x3.Idx → BitVec 8) (ix3 n ⟨g.val * 32 + j.val, by omega⟩ 2)) i)
      * (m ((c.tc : Thread nD τ).loc main_arg0) : S8x1x12928.Idx → EReal) (ix3 tok 0 ⟨g.val * 128 + (j.val * 4 + i.val), by omega⟩))
      * (m ((c.tc : Thread nD τ).loc main_arg3) : S27392x101.Idx → EReal) (ix2 n g))
      * (m ((c.tc : Thread nD τ).loc main_arg2) : S27392.Idx → EReal) (ix1 n) := by
  rw [result_eq, product_apply]
  simp only [weights_apply, codes_apply, joined_apply, wideCode]

end Cert.ReferenceIdeal

end
-- ==== Proof.Equation.lean ====
/- The factor 4096: taken into the weights, as the reference has it, or out of the groups' sum, as the kernel has it. -/
module

public import proofs.«01_k».proof.Proof.Decode
public import proofs.«01_k».proof.Proof.Spec

@[expose] public section

noncomputable section

namespace Cert.Fp6

open Idealize.ShloMosaic

/-- A real factor, not negative, goes into a sum of extended reals. -/
theorem mul_sum_of_nonneg {ι : Type} (s : Finset ι) (r : ℝ) (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha, ← ih]
    exact EReal.left_distrib_of_nonneg_of_ne_top (EReal.coe_nonneg.mpr hr) (EReal.coe_ne_top r) _ _

/-- With the reference's numbers for the codes a group's dot product is 4096 times the kernel's. -/
theorem wide_dot (x : Fin 4 → Fin 32 → EReal) (b : Fin 3 → Fin 32 → BitVec 8) :
    ∑ i : Fin 4, ∑ j : Fin 32, wideVal (wideCode (b 0 j) (b 1 j) (b 2 j) i) * x i j = ((4096 : ℝ) : EReal) * groupDot x b := by
  unfold groupDot
  rw [mul_sum_of_nonneg _ _ (by norm_num)]
  refine Finset.sum_congr rfl fun i _ => ?_
  rw [mul_sum_of_nonneg _ _ (by norm_num)]
  refine Finset.sum_congr rfl fun j _ => ?_
  rw [wideVal_code, mul_assoc, mul_comm (x i j)]

/-- With the reference's numbers for the codes the scaled sum of the groups' dot products is the kernel's element. -/
theorem wide_out (x : Fin 101 → Fin 4 → Fin 32 → EReal) (b : Fin 101 → Fin 3 → Fin 32 → BitVec 8)
    (s : Fin 101 → EReal) (ws : EReal) :
    (∑ g : Fin 101, (∑ i : Fin 4, ∑ j : Fin 32, wideVal (wideCode (b g 0 j) (b g 1 j) (b g 2 j) i) * x g i j) * s g) * ws
      = colOut x b s ws := by
  unfold colOut groupsSum
  rw [mul_comm (∑ g : Fin 101, groupDot (x g) (b g) * s g), mul_sum_of_nonneg _ _ (by norm_num)]
  refine congrArg (· * ws) (Finset.sum_congr rfl fun g _ => ?_)
  rw [wide_dot, mul_assoc]

end Cert.Fp6

end
-- ==== Proof.Algebraic.lean ====
/- The idealized kernel and the reference end at one result. -/
module

public import proofs.«01_k».proof.Proof.RunIdeal
public import proofs.«01_k».proof.Proof.Prep
public import proofs.«01_k».proof.Proof.RefValue
public import proofs.«01_k».proof.Proof.Equation
public import proofs.«01_k».proof.Defs

@[expose] public section

set_option maxRecDepth 16384

noncomputable section

namespace Cert.Algebraic

open Idealize.ShloMosaic Idealize.ShloMosaic.TcCoe Idealize.SL.Sem Cert.Fp6 Cert.KernelIdeal

variable (m : (ℓ : Loc nD τ sig) → Buf (Elt Ideal) ℓ)

/-- The activations of token `tok`, group `g`, at phase `i` of triple `j`. -/
def act (c : Dev nD) (tok : Fin 8) (g : Fin 101) (i : Fin 4) (j : Fin 32) : EReal :=
  (m ((c.tc : Thread nD τ).loc main_arg0) : S8x1x12928.Idx → EReal) (ix3 tok 0 ⟨g.val * 128 + (j.val * 4 + i.val), by omega⟩)

/-- The pipeline's activations are those on the block diagonal. -/
theorem act_diag (c : Dev nD) : Diag (Gen.V m c main_v15) (act m c) := by
  rw [blocks_eq]
  exact blocks_diag _

/-- The transposed bytes, the transposed group scales and the column scales as a row, at an index. -/
theorem bytes_at (b : S27392x3232x3.Idx → BitVec 8) (n : Fin 27392) (r : Fin 3232) (p : Fin 3) :
    transpose S3x3232x27392 [2, 1, 0] b Facts₀.transposes_S27392x3232x3_S3x3232x27392_2_1_0 (ix3 p r n) = b (ix3 n r p) := by pointwise
/-- The transposed group scales at an index. -/
theorem scales_at (s : S27392x101.Idx → EReal) (n : Fin 27392) (g : Fin 101) :
    transpose S101x27392 [1, 0] s Facts₀.transposes_S27392x101_S101x27392_1_0 (ix2 g n) = s (ix2 n g) := by pointwise
/-- The column scales as a row, at an index. -/
theorem colScale_at (s : S27392.Idx → EReal) (n : Fin 27392) :
    shapeCast S1x27392 s Facts₀.shapeCasts_S27392_S1x27392 (ix2 0 n) = s (ix1 n) := by pointwise

/-- An element of the kernel's result, in terms of the arguments. -/
theorem kernel_apply (c : Dev nD) (tok : Fin 8) (n : Fin 27392) :
    result m (act m) c (ix2 tok n) = colOut (act m c tok)
      (fun g p j => (m ((c.tc : Thread nD τ).loc main_arg1) : S27392x3232x3.Idx → BitVec 8) (ix3 n ⟨g.val * 32 + j.val, by omega⟩ p))
      (fun g => (m ((c.tc : Thread nD τ).loc main_arg3) : S27392x101.Idx → EReal) (ix2 n g))
      ((m ((c.tc : Thread nD τ).loc main_arg2) : S27392.Idx → EReal) (ix1 n)) := by
  unfold result
  rw [bytes_eq, scales_eq, colScale_eq]
  refine congr (congr (congrArg (colOut (act m c tok)) ?_) ?_) ?_
  · funext g p j
    exact bytes_at _ n _ p
  · funext g
    exact scales_at _ n g
  · exact colScale_at _ n

/-- Two arrays of one middle row agree when they do at each row and column. -/
theorem ext_rows (f g : S8x1x27392.Idx → EReal) (h : ∀ tok n, f (ix3 tok 0 n) = g (ix3 tok 0 n)) : f = g := by
  funext k
  rw [eq_ix3 k, show k 1 = (0 : Fin 1) from Subsingleton.elim (α := Fin 1) _ _]
  exact h _ _

/-- The last reshape puts a middle axis of one row in. -/
theorem reshape_at (y : S8x27392.Idx → EReal) (tok : Fin 8) (n : Fin 27392) :
    shapeCast S8x1x27392 y Facts₀.shapeCasts_S8x27392_S8x1x27392 (ix3 tok 0 n) = y (ix2 tok n) := by pointwise

/-- From memories that agree on the arguments the two results agree. -/
theorem results_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    Cert.ReferenceIdeal.Value.res_main_v62 m' c = shapeCast S8x1x27392 (result m (act m) c) Facts₀.shapeCasts_S8x27392_S8x1x27392 := by
  refine ext_rows _ _ fun tok n => ?_
  rw [reshape_at, kernel_apply]
  refine (Cert.ReferenceIdeal.result_apply m' c tok n).trans ?_
  rw [h0, h1, h2, h3]
  exact wide_out (act m c tok) (fun g p j => (m ((c.tc : Thread nD τ).loc main_arg1) : S27392x3232x3.Idx → BitVec 8) (ix3 n ⟨g.val * 32 + j.val, by omega⟩ p)) _ _

/-- Both programs run, keep their arguments and end at the same result. -/
theorem algebraic [Cert.KernelIdeal.Facts] [Cert.ReferenceIdeal.Facts] : Cert.algebraic_KernelIdeal_ReferenceIdeal := by
  intro m g m' g' _ h
  exact ⟨fun c => shapeCast S8x1x27392 (result m (act m) c) Facts₀.shapeCasts_S8x27392_S8x1x27392,
    run_value m g (act m) (act_diag m),
    (θ_run _ _ _).mono (fun r hr c => ⟨(hr c).1.trans (results_eq m m' c (h c).1 (h c).2.1 (h c).2.2.1 (h c).2.2.2), (hr c).2⟩)
      (Cert.ReferenceIdeal.Value.run m' g')⟩

end Cert.Algebraic

end
-- ==== Proof.lean ====
/- The claims of this certificate, put together from the modules that prove them. -/
module

public import proofs.«01_k».proof.Defs
public import proofs.«01_k».proof.Proof.FrameKernel
public import proofs.«01_k».proof.Proof.FrameIdeal
public import proofs.«01_k».proof.Proof.FrameReference
public import proofs.«01_k».proof.Proof.Algebraic

@[expose] public section

noncomputable section

namespace Cert.Proof

open Idealize.ShloMosaic Idealize.SL.Sem

/-- All claims: the two kernels and the reference run, keep their arguments and end quiescent, the idealized
    kernel is the kernel's own text, and over the extended reals it ends at the reference's result. -/
theorem claim : Cert.Claim :=
  ⟨Cert.Kernel.Gen.facts, Cert.KernelIdeal.Gen.facts, Cert.ReferenceIdeal.Gen.facts,
    fun m g _ => Cert.Kernel.run_frame m g, fun m g _ => Cert.KernelIdeal.run_frame m g,
    fun m g _ => Cert.ReferenceIdeal.run_frame m g, trivial, Cert.Algebraic.algebraic⟩

end Cert.Proof

end
